-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S4096x64x35 : Shape := ⟨3, ![4096, 64, 35]⟩
abbrev S32x768 : Shape := ⟨2, ![32, 768]⟩
abbrev S768 : Shape := ⟨1, ![768]⟩
abbrev S15x128 : Shape := ⟨2, ![15, 128]⟩
abbrev S64x128 : Shape := ⟨2, ![64, 128]⟩
abbrev S20x128 : Shape := ⟨2, ![20, 128]⟩
abbrev S64x1152 : Shape := ⟨2, ![64, 1152]⟩
abbrev S4096x64x1 : Shape := ⟨3, ![4096, 64, 1]⟩
abbrev S4096x64 : Shape := ⟨2, ![4096, 64]⟩
abbrev S_ : Shape := ⟨0, ![]⟩

class Facts : Prop where
  slices_S4096x64x35_S4096x64x1_0_0_32 : S4096x64x35.Slices ![0, 0, 32] S4096x64x1
  shapeCasts_S4096x64x1_S4096x64 : S4096x64x1.ShapeCasts S4096x64
  slices_S4096x64x35_S4096x64x1_0_0_33 : S4096x64x35.Slices ![0, 0, 33] S4096x64x1
  slices_S4096x64x35_S4096x64x1_0_0_34 : S4096x64x35.Slices ![0, 0, 34] S4096x64x1
  bcast_S_S4096x64 : S_.BroadcastsInDim S4096x64 (![] : Fin 0 → Fin S4096x64.rank)

variable [Facts]

def fn_part1 {F : FTy → Type} [FloatOps F] (main_v8 : IVec S4096x64 32) (main_v19 : IVec S4096x64 1) : IVec S4096x64 1 :=
  let main_c_3 : IVec S_ 32 := constantI S_ 32 0#32
  let main_v20 : IVec S4096x64 32 := broadcastInDim S4096x64 ![] bcast_S_S4096x64 main_c_3
  let main_v21 : IVec S4096x64 1 := cmpi .sge main_v8 main_v20
  let main_v22 : IVec S4096x64 1 := andi main_v19 main_v21
  let main_c_4 : IVec S_ 32 := constantI S_ 32 20#32
  let main_v23 : IVec S4096x64 32 := broadcastInDim S4096x64 ![] bcast_S_S4096x64 main_c_4
  let main_v24 : IVec S4096x64 1 := cmpi .slt main_v8 main_v23
  let main_v25 : IVec S4096x64 1 := andi main_v22 main_v24
  main_v25

def fn {F : FTy → Type} [FloatOps F] (main_arg0 : FVec F S4096x64x35 .f32) (main_arg1 : FVec F S32x768 .f32) (main_arg2 : FVec F S768 .f32) (main_arg3 : FVec F S15x128 .f32) (main_arg4 : FVec F S64x128 .f32) (main_arg5 : FVec F S20x128 .f32) (main_arg6 : FVec F S64x1152 .f32) : IVec S4096x64 1 :=
  let main_v0 : FVec F S4096x64x1 .f32 := (extractStridedSlice S4096x64x1 ![0, 0, 32] · slices_S4096x64x35_S4096x64x1_0_0_32) main_arg0
  let main_v1 : FVec F S4096x64 .f32 := shapeCast S4096x64 main_v0 shapeCasts_S4096x64x1_S4096x64
  let main_v2 : IVec S4096x64 32 := fptosi 32 main_v1
  let main_v3 : FVec F S4096x64x1 .f32 := (extractStridedSlice S4096x64x1 ![0, 0, 33] · slices_S4096x64x35_S4096x64x1_0_0_33) main_arg0
  let main_v4 : FVec F S4096x64 .f32 := shapeCast S4096x64 main_v3 shapeCasts_S4096x64x1_S4096x64
  let main_v5 : IVec S4096x64 32 := fptosi 32 main_v4
  let main_v6 : FVec F S4096x64x1 .f32 := (extractStridedSlice S4096x64x1 ![0, 0, 34] · slices_S4096x64x35_S4096x64x1_0_0_34) main_arg0
  let main_v7 : FVec F S4096x64 .f32 := shapeCast S4096x64 main_v6 shapeCasts_S4096x64x1_S4096x64
  let main_v8 : IVec S4096x64 32 := fptosi 32 main_v7
  let main_c : IVec S_ 32 := constantI S_ 32 0#32
  let main_v9 : IVec S4096x64 32 := broadcastInDim S4096x64 ![] bcast_S_S4096x64 main_c
  let main_v10 : IVec S4096x64 1 := cmpi .sge main_v2 main_v9
  let main_c_0 : IVec S_ 32 := constantI S_ 32 64#32
  let main_v11 : IVec S4096x64 32 := broadcastInDim S4096x64 ![] bcast_S_S4096x64 main_c_0
  let main_v12 : IVec S4096x64 1 := cmpi .slt main_v2 main_v11
  let main_v13 : IVec S4096x64 1 := andi main_v10 main_v12
  let main_c_1 : IVec S_ 32 := constantI S_ 32 0#32
  let main_v14 : IVec S4096x64 32 := broadcastInDim S4096x64 ![] bcast_S_S4096x64 main_c_1
  let main_v15 : IVec S4096x64 1 := cmpi .sge main_v5 main_v14
  let main_v16 : IVec S4096x64 1 := andi main_v13 main_v15
  let main_c_2 : IVec S_ 32 := constantI S_ 32 15#32
  let main_v17 : IVec S4096x64 32 := broadcastInDim S4096x64 ![] bcast_S_S4096x64 main_c_2
  let main_v18 : IVec S4096x64 1 := cmpi .slt main_v5 main_v17
  let main_v19 : IVec S4096x64 1 := andi main_v16 main_v18
  fn_part1 (F := F) main_v8 main_v19
-- ==== Kernel.lean ====
abbrev S4096x64x35 : Shape := ⟨3, ![4096, 64, 35]⟩
abbrev S32x768 : Shape := ⟨2, ![32, 768]⟩
abbrev S768 : Shape := ⟨1, ![768]⟩
abbrev S15x128 : Shape := ⟨2, ![15, 128]⟩
abbrev S64x128 : Shape := ⟨2, ![64, 128]⟩
abbrev S20x128 : Shape := ⟨2, ![20, 128]⟩
abbrev S64x1152 : Shape := ⟨2, ![64, 1152]⟩
abbrev S262144x35 : Shape := ⟨2, ![262144, 35]⟩
abbrev S1x768 : Shape := ⟨2, ![1, 768]⟩
abbrev S262144x1152 : Shape := ⟨2, ![262144, 1152]⟩
abbrev S4096x35 : Shape := ⟨2, ![4096, 35]⟩
abbrev S4096x1152 : Shape := ⟨2, ![4096, 1152]⟩
abbrev S4096x128 : Shape := ⟨2, ![4096, 128]⟩
abbrev S128x768 : Shape := ⟨2, ![128, 768]⟩
abbrev S128x384 : Shape := ⟨2, ![128, 384]⟩
abbrev S512x384 : Shape := ⟨2, ![512, 384]⟩
abbrev S64x768 : Shape := ⟨2, ![64, 768]⟩
abbrev S2x768 : Shape := ⟨2, ![2, 768]⟩
abbrev S16x128 : Shape := ⟨2, ![16, 128]⟩
abbrev S66x128 : Shape := ⟨2, ![66, 128]⟩
abbrev S22x128 : Shape := ⟨2, ![22, 128]⟩
abbrev S64x384 : Shape := ⟨2, ![64, 384]⟩
abbrev S512x35 : Shape := ⟨2, ![512, 35]⟩
abbrev S512x32 : Shape := ⟨2, ![512, 32]⟩
abbrev S512x3 : Shape := ⟨2, ![512, 3]⟩
abbrev S512x128 : Shape := ⟨2, ![512, 128]⟩
abbrev S512x1 : Shape := ⟨2, ![512, 1]⟩
abbrev S512x768 : Shape := ⟨2, ![512, 768]⟩
abbrev S4096x64x1152 : Shape := ⟨3, ![4096, 64, 1152]⟩

abbrev nBuf : Space → Nat
  | .hbm => 11
  | .vmem => 14
  | .smem => 0
  | _ => 0

abbrev bufTy : (tb : Table) → Fin (tcTables nBuf tb) → BufTy
  | .hbm, ⟨0, _⟩ => ⟨S4096x64x35, .f32⟩
  | .hbm, ⟨1, _⟩ => ⟨S32x768, .f32⟩
  | .hbm, ⟨2, _⟩ => ⟨S768, .f32⟩
  | .hbm, ⟨3, _⟩ => ⟨S15x128, .f32⟩
  | .hbm, ⟨4, _⟩ => ⟨S64x128, .f32⟩
  | .hbm, ⟨5, _⟩ => ⟨S20x128, .f32⟩
  | .hbm, ⟨6, _⟩ => ⟨S64x1152, .f32⟩
  | .hbm, ⟨7, _⟩ => ⟨S262144x35, .f32⟩
  | .hbm, ⟨8, _⟩ => ⟨S1x768, .f32⟩
  | .hbm, ⟨9, _⟩ => ⟨S262144x1152, .f32⟩
  | .hbm, ⟨10, _⟩ => ⟨S4096x64x1152, .f32⟩
  | .local _ .vmem, ⟨0, _⟩ => ⟨S4096x35, .f32⟩
  | .local _ .vmem, ⟨1, _⟩ => ⟨S4096x35, .f32⟩
  | .local _ .vmem, ⟨2, _⟩ => ⟨S32x768, .f32⟩
  | .local _ .vmem, ⟨3, _⟩ => ⟨S1x768, .f32⟩
  | .local _ .vmem, ⟨4, _⟩ => ⟨S15x128, .f32⟩
  | .local _ .vmem, ⟨5, _⟩ => ⟨S64x128, .f32⟩
  | .local _ .vmem, ⟨6, _⟩ => ⟨S20x128, .f32⟩
  | .local _ .vmem, ⟨7, _⟩ => ⟨S64x1152, .f32⟩
  | .local _ .vmem, ⟨8, _⟩ => ⟨S4096x1152, .f32⟩
  | .local _ .vmem, ⟨9, _⟩ => ⟨S4096x1152, .f32⟩
  | .local _ .vmem, ⟨10, _⟩ => ⟨S4096x128, .bf16⟩
  | .local _ .vmem, ⟨11, _⟩ => ⟨S128x768, .bf16⟩
  | .local _ .vmem, ⟨12, _⟩ => ⟨S128x384, .bf16⟩
  | .local _ .vmem, ⟨13, _⟩ => ⟨S512x384, .f32⟩
  | _, _ => ⟨S4096x64x35, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x35 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x64x35 : Shape := ⟨3, ![4096, 64, 35]⟩
abbrev S32x768 : Shape := ⟨2, ![32, 768]⟩
abbrev S768 : Shape := ⟨1, ![768]⟩
abbrev S15x128 : Shape := ⟨2, ![15, 128]⟩
abbrev S64x128 : Shape := ⟨2, ![64, 128]⟩
abbrev S20x128 : Shape := ⟨2, ![20, 128]⟩
abbrev S64x1152 : Shape := ⟨2, ![64, 1152]⟩
abbrev S4096x64x32 : Shape := ⟨3, ![4096, 64, 32]⟩
abbrev S4096x64x1 : Shape := ⟨3, ![4096, 64, 1]⟩
abbrev S4096x64 : Shape := ⟨2, ![4096, 64]⟩
abbrev S4096x64x768 : Shape := ⟨3, ![4096, 64, 768]⟩
abbrev S1x1x768 : Shape := ⟨3, ![1, 1, 768]⟩
abbrev S_ : Shape := ⟨0, ![]⟩
abbrev S1 : Shape := ⟨1, ![1]⟩
abbrev S1x1x1 : Shape := ⟨3, ![1, 1, 1]⟩
abbrev S4096x64x128 : Shape := ⟨3, ![4096, 64, 128]⟩
abbrev S4096x64x1152 : Shape := ⟨3, ![4096, 64, 1152]⟩
abbrev S64 : Shape := ⟨1, ![64]⟩
abbrev S64x1 : Shape := ⟨2, ![64, 1]⟩
abbrev S1x1 : Shape := ⟨2, ![1, 1]⟩
abbrev S1x64x1152 : Shape := ⟨3, ![1, 64, 1152]⟩

abbrev nBuf : Space → Nat
  | .hbm => 118
  | .vmem => 0
  | .smem => 0
  | _ => 0

abbrev bufTy : (tb : Table) → Fin (tcTables nBuf tb) → BufTy
  | .hbm, ⟨0, _⟩ => ⟨S4096x64x35, .f32⟩
  | .hbm, ⟨1, _⟩ => ⟨S32x768, .f32⟩
  | .hbm, ⟨2, _⟩ => ⟨S768, .f32⟩
  | .hbm, ⟨3, _⟩ => ⟨S15x128, .f32⟩
  | .hbm, ⟨4, _⟩ => ⟨S64x128, .f32⟩
  | .hbm, ⟨5, _⟩ => ⟨S20x128, .f32⟩
  | .hbm, ⟨6, _⟩ => ⟨S64x1152, .f32⟩
  | .hbm, ⟨7, _⟩ => ⟨S4096x64x32, .f32⟩
  | .hbm, ⟨8, _⟩ => ⟨S4096x64x1, .f32⟩
  | .hbm, ⟨9, _⟩ => ⟨S4096x64, .f32⟩
  | .hbm, ⟨10, _⟩ => ⟨S4096x64, .i32⟩
  | .hbm, ⟨11, _⟩ => ⟨S4096x64x1, .f32⟩
  | .hbm, ⟨12, _⟩ => ⟨S4096x64, .f32⟩
  | .hbm, ⟨13, _⟩ => ⟨S4096x64, .i32⟩
  | .hbm, ⟨14, _⟩ => ⟨S4096x64x1, .f32⟩
  | .hbm, ⟨15, _⟩ => ⟨S4096x64, .f32⟩
  | .hbm, ⟨16, _⟩ => ⟨S4096x64, .i32⟩
  | .hbm, ⟨17, _⟩ => ⟨S4096x64x768, .f32⟩
  | .hbm, ⟨18, _⟩ => ⟨S1x1x768, .f32⟩
  | .hbm, ⟨19, _⟩ => ⟨S4096x64x768, .f32⟩
  | .hbm, ⟨20, _⟩ => ⟨S4096x64x768, .f32⟩
  | .hbm, ⟨21, _⟩ => ⟨S_, .i32⟩
  | .hbm, ⟨22, _⟩ => ⟨S4096x64, .i32⟩
  | .hbm, ⟨23, _⟩ => ⟨S4096x64, .i1⟩
  | .hbm, ⟨24, _⟩ => ⟨S_, .i32⟩
  | .hbm, ⟨25, _⟩ => ⟨S4096x64, .i32⟩
  | .hbm, ⟨26, _⟩ => ⟨S4096x64, .i32⟩
  | .hbm, ⟨27, _⟩ => ⟨S4096x64, .i32⟩
  | .hbm, ⟨28, _⟩ => ⟨S4096x64x1, .i32⟩
  | .hbm, ⟨29, _⟩ => ⟨S1, .i32⟩
  | .hbm, ⟨30, _⟩ => ⟨S_, .i32⟩
  | .hbm, ⟨31, _⟩ => ⟨S4096x64x1, .i32⟩
  | .hbm, ⟨32, _⟩ => ⟨S4096x64x1, .i1⟩
  | .hbm, ⟨33, _⟩ => ⟨S1x1x1, .i32⟩
  | .hbm, ⟨34, _⟩ => ⟨S4096x64x1, .i32⟩
  | .hbm, ⟨35, _⟩ => ⟨S4096x64x1, .i1⟩
  | .hbm, ⟨36, _⟩ => ⟨S4096x64x1, .i1⟩
  | .hbm, ⟨37, _⟩ => ⟨S_, .i1⟩
  | .hbm, ⟨38, _⟩ => ⟨S4096x64, .i1⟩
  | .hbm, ⟨39, _⟩ => ⟨S4096x64x128, .f32⟩
  | .hbm, ⟨40, _⟩ => ⟨S4096x64x128, .i1⟩
  | .hbm, ⟨41, _⟩ => ⟨S_, .f32⟩
  | .hbm, ⟨42, _⟩ => ⟨S4096x64x128, .f32⟩
  | .hbm, ⟨43, _⟩ => ⟨S4096x64x128, .f32⟩
  | .hbm, ⟨44, _⟩ => ⟨S_, .i32⟩
  | .hbm, ⟨45, _⟩ => ⟨S4096x64, .i32⟩
  | .hbm, ⟨46, _⟩ => ⟨S4096x64, .i1⟩
  | .hbm, ⟨47, _⟩ => ⟨S_, .i32⟩
  | .hbm, ⟨48, _⟩ => ⟨S4096x64, .i32⟩
  | .hbm, ⟨49, _⟩ => ⟨S4096x64, .i32⟩
  | .hbm, ⟨50, _⟩ => ⟨S4096x64, .i32⟩
  | .hbm, ⟨51, _⟩ => ⟨S4096x64x1, .i32⟩
  | .hbm, ⟨52, _⟩ => ⟨S1, .i32⟩
  | .hbm, ⟨53, _⟩ => ⟨S_, .i32⟩
  | .hbm, ⟨54, _⟩ => ⟨S4096x64x1, .i32⟩
  | .hbm, ⟨55, _⟩ => ⟨S4096x64x1, .i1⟩
  | .hbm, ⟨56, _⟩ => ⟨S1x1x1, .i32⟩
  | .hbm, ⟨57, _⟩ => ⟨S4096x64x1, .i32⟩
  | .hbm, ⟨58, _⟩ => ⟨S4096x64x1, .i1⟩
  | .hbm, ⟨59, _⟩ => ⟨S4096x64x1, .i1⟩
  | .hbm, ⟨60, _⟩ => ⟨S_, .i1⟩
  | .hbm, ⟨61, _⟩ => ⟨S4096x64, .i1⟩
  | .hbm, ⟨62, _⟩ => ⟨S4096x64x128, .f32⟩
  | .hbm, ⟨63, _⟩ => ⟨S4096x64x128, .i1⟩
  | .hbm, ⟨64, _⟩ => ⟨S_, .f32⟩
  | .hbm, ⟨65, _⟩ => ⟨S4096x64x128, .f32⟩
  | .hbm, ⟨66, _⟩ => ⟨S4096x64x128, .f32⟩
  | .hbm, ⟨67, _⟩ => ⟨S_, .i32⟩
  | .hbm, ⟨68, _⟩ => ⟨S4096x64, .i32⟩
  | .hbm, ⟨69, _⟩ => ⟨S4096x64, .i1⟩
  | .hbm, ⟨70, _⟩ => ⟨S_, .i32⟩
  | .hbm, ⟨71, _⟩ => ⟨S4096x64, .i32⟩
  | .hbm, ⟨72, _⟩ => ⟨S4096x64, .i32⟩
  | .hbm, ⟨73, _⟩ => ⟨S4096x64, .i32⟩
  | .hbm, ⟨74, _⟩ => ⟨S4096x64x1, .i32⟩
  | .hbm, ⟨75, _⟩ => ⟨S1, .i32⟩
  | .hbm, ⟨76, _⟩ => ⟨S_, .i32⟩
  | .hbm, ⟨77, _⟩ => ⟨S4096x64x1, .i32⟩
  | .hbm, ⟨78, _⟩ => ⟨S4096x64x1, .i1⟩
  | .hbm, ⟨79, _⟩ => ⟨S1x1x1, .i32⟩
  | .hbm, ⟨80, _⟩ => ⟨S4096x64x1, .i32⟩
  | .hbm, ⟨81, _⟩ => ⟨S4096x64x1, .i1⟩
  | .hbm, ⟨82, _⟩ => ⟨S4096x64x1, .i1⟩
  | .hbm, ⟨83, _⟩ => ⟨S_, .i1⟩
  | .hbm, ⟨84, _⟩ => ⟨S4096x64, .i1⟩
  | .hbm, ⟨85, _⟩ => ⟨S4096x64x128, .f32⟩
  | .hbm, ⟨86, _⟩ => ⟨S4096x64x128, .i1⟩
  | .hbm, ⟨87, _⟩ => ⟨S_, .f32⟩
  | .hbm, ⟨88, _⟩ => ⟨S4096x64x128, .f32⟩
  | .hbm, ⟨89, _⟩ => ⟨S4096x64x128, .f32⟩
  | .hbm, ⟨90, _⟩ => ⟨S4096x64x1152, .f32⟩
  | .hbm, ⟨91, _⟩ => ⟨S64, .i32⟩
  | .hbm, ⟨92, _⟩ => ⟨S_, .i32⟩
  | .hbm, ⟨93, _⟩ => ⟨S64, .i32⟩
  | .hbm, ⟨94, _⟩ => ⟨S64, .i1⟩
  | .hbm, ⟨95, _⟩ => ⟨S_, .i32⟩
  | .hbm, ⟨96, _⟩ => ⟨S64, .i32⟩
  | .hbm, ⟨97, _⟩ => ⟨S64, .i32⟩
  | .hbm, ⟨98, _⟩ => ⟨S64, .i32⟩
  | .hbm, ⟨99, _⟩ => ⟨S64x1, .i32⟩
  | .hbm, ⟨100, _⟩ => ⟨S1, .i32⟩
  | .hbm, ⟨101, _⟩ => ⟨S_, .i32⟩
  | .hbm, ⟨102, _⟩ => ⟨S64x1, .i32⟩
  | .hbm, ⟨103, _⟩ => ⟨S64x1, .i1⟩
  | .hbm, ⟨104, _⟩ => ⟨S1x1, .i32⟩
  | .hbm, ⟨105, _⟩ => ⟨S64x1, .i32⟩
  | .hbm, ⟨106, _⟩ => ⟨S64x1, .i1⟩
  | .hbm, ⟨107, _⟩ => ⟨S64x1, .i1⟩
  | .hbm, ⟨108, _⟩ => ⟨S_, .i1⟩
  | .hbm, ⟨109, _⟩ => ⟨S64, .i1⟩
  | .hbm, ⟨110, _⟩ => ⟨S64x1152, .f32⟩
  | .hbm, ⟨111, _⟩ => ⟨S64x1152, .i1⟩
  | .hbm, ⟨112, _⟩ => ⟨S_, .f32⟩
  | .hbm, ⟨113, _⟩ => ⟨S64x1152, .f32⟩
  | .hbm, ⟨114, _⟩ => ⟨S64x1152, .f32⟩
  | .hbm, ⟨115, _⟩ => ⟨S1x64x1152, .f32⟩
  | .hbm, ⟨116, _⟩ => ⟨S4096x64x1152, .f32⟩
  | .hbm, ⟨117, _⟩ => ⟨S4096x64x1152, .f32⟩
  | _, _ => ⟨S4096x64x35, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v14 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v15 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v16 : Ref sig .tc := ⟨.hbm, 89, rfl⟩
abbrev main_v17 : Ref sig .tc := ⟨.hbm, 90, rfl⟩
abbrev main_v18 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v19 : Ref sig .tc := ⟨.hbm, 114, rfl⟩
abbrev main_v20 : Ref sig .tc := ⟨.hbm, 115, rfl⟩
abbrev main_v21 : Ref sig .tc := ⟨.hbm, 116, rfl⟩
abbrev main_v22 : Ref sig .tc := ⟨.hbm, 117, rfl⟩

abbrev nD : Nat := 1
abbrev τ : Topo := Topo.v7x

variable {F : FTy → Type} [FloatOps F]
-- ==== Proof.Ideal.Setup.lean ====
/-
  The idealized kernel, what its two runs share: the test that singles out the first of the 64 grid points, the staging
  memrefs of the windows at a point, the four scratch buffers as memrefs, and the launch's invariant written over them.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Fused

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid's first point -/

/-- The body's test on the grid coordinate: it assembles the scratch buffers where this holds. -/
abbrev AtFirst (i : grid0.Coords) : Prop :=
  (Scalar.cmpi .ne (Scalar.extui (Scalar.cmpi .eq (BitVec.ofNat 32 (i 0).val) 0#32)) 0#32) = 1#1

/-- The test holds at point 0 and at no other point of the grid. -/
theorem atFirst_iff : ∀ t : Fin cfg0.N, AtFirst (grid0.coords t) ↔ t.val = 0 :=
  (fun t => by
    have ht : t.val < 64 := Nat.lt_of_lt_of_eq t.isLt N_0
    have e0 : (grid0.coords t 0).val = t.val / 1 % 64 := Pipeline.Grid.coords_val t 0 (by decide) rfl
    have key : AtFirst (grid0.coords t) ↔ t.val % 64 = 0 := by
      simp only [AtFirst, e0]
      word_cmp
    rw [key]; omega
   : ∀ t : Fin grid0.N, AtFirst (grid0.coords t) ↔ t.val = 0)

/-! ## Staging memrefs and scratch -/

/-- Window 0's staging memref at point `t`, and that it is a whole buffer. -/
abbrev stg0 (t : Fin cfg0.N) : Memref sig .tc .vmem S4096x35 .f32 := win0_0.stage (cfg0.slots t 0)
abbrev whole0 (t : Fin cfg0.N) : (stg0 t).IsWhole := hstage0_0 ((cfg0.slots t 0).cast nbuf0_0)
/-- Window 1's staging memref at point `t`, and that it is a whole buffer. -/
abbrev stg1 (t : Fin cfg0.N) : Memref sig .tc .vmem S32x768 .f32 := win0_1.stage (cfg0.slots t 1)
abbrev whole1 (t : Fin cfg0.N) : (stg1 t).IsWhole := hstage0_1 ((cfg0.slots t 1).cast nbuf0_1)
/-- Window 2's staging memref at point `t`, and that it is a whole buffer. -/
abbrev stg2 (t : Fin cfg0.N) : Memref sig .tc .vmem S1x768 .f32 := win0_2.stage (cfg0.slots t 2)
abbrev whole2 (t : Fin cfg0.N) : (stg2 t).IsWhole := hstage0_2 ((cfg0.slots t 2).cast nbuf0_2)
/-- Window 3's staging memref at point `t`, and that it is a whole buffer. -/
abbrev stg3 (t : Fin cfg0.N) : Memref sig .tc .vmem S15x128 .f32 := win0_3.stage (cfg0.slots t 3)
abbrev whole3 (t : Fin cfg0.N) : (stg3 t).IsWhole := hstage0_3 ((cfg0.slots t 3).cast nbuf0_3)
/-- Window 4's staging memref at point `t`, and that it is a whole buffer. -/
abbrev stg4 (t : Fin cfg0.N) : Memref sig .tc .vmem S64x128 .f32 := win0_4.stage (cfg0.slots t 4)
abbrev whole4 (t : Fin cfg0.N) : (stg4 t).IsWhole := hstage0_4 ((cfg0.slots t 4).cast nbuf0_4)
/-- Window 5's staging memref at point `t`, and that it is a whole buffer. -/
abbrev stg5 (t : Fin cfg0.N) : Memref sig .tc .vmem S20x128 .f32 := win0_5.stage (cfg0.slots t 5)
abbrev whole5 (t : Fin cfg0.N) : (stg5 t).IsWhole := hstage0_5 ((cfg0.slots t 5).cast nbuf0_5)
/-- Window 6's staging memref at point `t`, and that it is a whole buffer. -/
abbrev stg6 (t : Fin cfg0.N) : Memref sig .tc .vmem S64x1152 .f32 := win0_6.stage (cfg0.slots t 6)
abbrev whole6 (t : Fin cfg0.N) : (stg6 t).IsWhole := hstage0_6 ((cfg0.slots t 6).cast nbuf0_6)
/-- Window 7's staging memref at point `t`, and that it is a whole buffer. -/
abbrev stg7 (t : Fin cfg0.N) : Memref sig .tc .vmem S4096x1152 .f32 := win0_7.stage (cfg0.slots t 7)
abbrev whole7 (t : Fin cfg0.N) : (stg7 t).IsWhole := hstage0_7 ((cfg0.slots t 7).cast nbuf0_7)
/-- Scratch buffer 0: the features. -/
abbrev scr0 : Memref sig .tc .vmem S4096x128 .bf16 := Memref.whole cc0_scratch0
/-- Scratch buffer 1: the weights of the first 768 columns. -/
abbrev scr1 : Memref sig .tc .vmem S128x768 .bf16 := Memref.whole cc0_scratch1
/-- Scratch buffer 2: the weights of the last 384 columns. -/
abbrev scr2 : Memref sig .tc .vmem S128x384 .bf16 := Memref.whole cc0_scratch2
/-- Scratch buffer 3: the position rows of the last 384 columns. -/
abbrev scr3 : Memref sig .tc .vmem S512x384 .f32 := Memref.whole cc0_scratch3

/-- The launch's invariant, with each scratch buffer held as a memref at some contents. -/
theorem launch_inv (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d) ∗ (∃ d, owns (c : Thread nD τ) scr3 fullShare d))
        ∗ (∃ r, prngReg c r)) := by
  unfold Pipeline.ΦA; rw [scopedRest0_eq]; simp only [scr0, scr1, scr2, scr3, owns_whole]; try rfl

end Cert.KernelIdeal.Fused

end
-- ==== Proof.Ideal.RunFirst.lean ====
/-
  The idealized kernel: its body run at the grid's first point.
-/
module

public import proofs.«01_k».proof.Proof.Ideal.Setup

@[expose] public section

set_option maxRecDepth 16384

noncomputable section

namespace Cert.KernelIdeal.Fused

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the grid's first point, on whole staging buffers: from the inputs at their contents and the result's
    and the scratch buffers at anything it runs to the end, the inputs unchanged, the result's buffer with the pieces
    `L0` written and the four scratch buffers with the pieces `L1` … `L4`. The pieces are what the run finds. -/
def runFirst (c : Dev nD) (i : grid0.Coords) (arg1 : Memref sig .tc .vmem S4096x35 .f32) (harg1 : arg1.IsWhole) (arg2 : Memref sig .tc .vmem S32x768 .f32) (harg2 : arg2.IsWhole) (arg3 : Memref sig .tc .vmem S1x768 .f32) (harg3 : arg3.IsWhole) (arg4 : Memref sig .tc .vmem S15x128 .f32) (harg4 : arg4.IsWhole) (arg5 : Memref sig .tc .vmem S64x128 .f32) (harg5 : arg5.IsWhole) (arg6 : Memref sig .tc .vmem S20x128 .f32) (harg6 : arg6.IsWhole) (arg7 : Memref sig .tc .vmem S64x1152 .f32) (harg7 : arg7.IsWhole) (arg8 : Memref sig .tc .vmem S4096x1152 .f32) (harg8 : arg8.IsWhole) (arg9 : Memref sig .tc .vmem S4096x128 .bf16) (harg9 : arg9.IsWhole) (arg10 : Memref sig .tc .vmem S128x768 .bf16) (harg10 : arg10.IsWhole) (arg11 : Memref sig .tc .vmem S128x384 .bf16) (harg11 : arg11.IsWhole) (arg12 : Memref sig .tc .vmem S512x384 .f32) (harg12 : arg12.IsWhole) (hfirst : AtFirst i)
    (x0 : Vec F S4096x35 .f32) (x1 : Vec F S32x768 .f32) (x2 : Vec F S1x768 .f32) (x3 : Vec F S15x128 .f32) (x4 : Vec F S64x128 .f32) (x5 : Vec F S20x128 .f32) (x6 : Vec F S64x1152 .f32) :
    Σ' (L0 : List (View.Piece (Elt F) S4096x1152 .f32)), Σ' (L1 : List (View.Piece (Elt F) S4096x128 .bf16)), Σ' (L2 : List (View.Piece (Elt F) S128x768 .bf16)), Σ' (L3 : List (View.Piece (Elt F) S128x384 .bf16)), { L4 : List (View.Piece (Elt F) S512x384 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ f, arg8.view.loc (c : Thread nD τ) ↦[arg8.view.set]{fullShare} arg8.view.writes (Elt F) f L0)
            ∗ (∃ f, arg9.view.loc (c : Thread nD τ) ↦[arg9.view.set]{fullShare} arg9.view.writes (Elt F) f L1)
            ∗ (∃ f, arg10.view.loc (c : Thread nD τ) ↦[arg10.view.set]{fullShare} arg10.view.writes (Elt F) f L2)
            ∗ (∃ f, arg11.view.loc (c : Thread nD τ) ↦[arg11.view.set]{fullShare} arg11.view.writes (Elt F) f L3)
            ∗ (∃ f, arg12.view.loc (c : Thread nD τ) ↦[arg12.view.set]{fullShare} arg12.view.writes (Elt F) f L4)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__fused_kernel_eq_skeleton]; unfold cc0__fused_kernel_skel
    simp only [k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%e0, %g0, -, S0⟩, ⟨%e1, %g1, -, S1⟩, ⟨%e2, %g2, -, S2⟩, ⟨%e3, %g3, -, S3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hfirst)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [S0]; · iexists _; iexact S0
    isplitl [S1]; · iexists _; iexact S1
    isplitl [S2]; · iexists _; iexact S2
    iexists _; iexact S3

end Cert.KernelIdeal.Fused

end
-- ==== Proof.Ideal.RunLater.lean ====
/-
  The idealized kernel: its body run at a point after the first.
-/
module

public import proofs.«01_k».proof.Proof.Ideal.RunFirst

@[expose] public section

set_option maxRecDepth 16384

noncomputable section

namespace Cert.KernelIdeal.Fused

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a later point, on whole staging buffers: from the inputs at their contents, the scratch buffers at
    `s0` … `s3` and the result's buffer at anything it runs to the end, the inputs and the last three scratch buffers
    unchanged, the result's buffer with the pieces `L0` written and the features with the pieces `L1` written over `s0`. -/
def runLater (c : Dev nD) (i : grid0.Coords) (arg1 : Memref sig .tc .vmem S4096x35 .f32) (harg1 : arg1.IsWhole) (arg2 : Memref sig .tc .vmem S32x768 .f32) (harg2 : arg2.IsWhole) (arg3 : Memref sig .tc .vmem S1x768 .f32) (harg3 : arg3.IsWhole) (arg4 : Memref sig .tc .vmem S15x128 .f32) (harg4 : arg4.IsWhole) (arg5 : Memref sig .tc .vmem S64x128 .f32) (harg5 : arg5.IsWhole) (arg6 : Memref sig .tc .vmem S20x128 .f32) (harg6 : arg6.IsWhole) (arg7 : Memref sig .tc .vmem S64x1152 .f32) (harg7 : arg7.IsWhole) (arg8 : Memref sig .tc .vmem S4096x1152 .f32) (harg8 : arg8.IsWhole) (arg9 : Memref sig .tc .vmem S4096x128 .bf16) (harg9 : arg9.IsWhole) (arg10 : Memref sig .tc .vmem S128x768 .bf16) (harg10 : arg10.IsWhole) (arg11 : Memref sig .tc .vmem S128x384 .bf16) (harg11 : arg11.IsWhole) (arg12 : Memref sig .tc .vmem S512x384 .f32) (harg12 : arg12.IsWhole) (hlater : ¬AtFirst i)
    (x0 : Vec F S4096x35 .f32) (x1 : Vec F S32x768 .f32) (x2 : Vec F S1x768 .f32) (x3 : Vec F S15x128 .f32) (x4 : Vec F S64x128 .f32) (x5 : Vec F S20x128 .f32) (x6 : Vec F S64x1152 .f32) (s0 : Vec F S4096x128 .bf16) (s1 : Vec F S128x768 .bf16) (s2 : Vec F S128x384 .bf16) (s3 : Vec F S512x384 .f32) :
    Σ' (L0 : List (View.Piece (Elt F) S4096x1152 .f32)), { L1 : List (View.Piece (Elt F) S4096x128 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ d, owns (c : Thread nD τ) arg8 fullShare d)
            ∗ owns (c : Thread nD τ) arg9 fullShare s0
            ∗ owns (c : Thread nD τ) arg10 fullShare s1
            ∗ owns (c : Thread nD τ) arg11 fullShare s2
            ∗ owns (c : Thread nD τ) arg12 fullShare s3
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ f, arg8.view.loc (c : Thread nD τ) ↦[arg8.view.set]{fullShare} arg8.view.writes (Elt F) f L0)
            ∗ (arg9.view.loc (c : Thread nD τ) ↦[arg9.view.set]{fullShare} arg9.view.writes (Elt F) (harg9.unread s0) L1)
            ∗ owns (c : Thread nD τ) arg10 fullShare s1
            ∗ owns (c : Thread nD τ) arg11 fullShare s2
            ∗ owns (c : Thread nD τ) arg12 fullShare s3) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__fused_kernel_eq_skeleton]; unfold cc0__fused_kernel_skel
    simp only [k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%g0, %hg0, S0⟩, ⟨%g1, %hg1, S1⟩, ⟨%g2, %hg2, S2⟩, ⟨%g3, %hg3, S3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hg0; obtain rfl := harg10.eq_unread hg1; obtain rfl := harg11.eq_unread hg2; obtain rfl := harg12.eq_unread hg3
    sl_exec (disch := first | sl_exact hlater)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [S0]; · iexact S0
    isplitl [S1]
    · iexists _; isplitr; · ipureintro; exact harg10.read_unread _
      iexact S1
    isplitl [S2]
    · iexists _; isplitr; · ipureintro; exact harg11.read_unread _
      iexact S2
    iexists _; isplitr; · ipureintro; exact harg12.read_unread _
    iexact S3

end Cert.KernelIdeal.Fused

end
-- ==== Proof.Ideal.Launch.lean ====
/-
  The idealized kernel, its launch: what each buffer holds after every point of the grid, the pipeline's proof data, the body's
  obligation at every point, the run of the whole program, and the frame claim.
-/
module

public import proofs.«01_k».proof.Proof.Ideal.RunLater
public import Idealize.ShloMosaic.Lib.Claim

@[expose] public section

set_option maxRecDepth 16384

noncomputable section

namespace Cert.KernelIdeal.Fused

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores cover what they have to -/

/-- At the first point the stores into the result's block cover it. -/
theorem first_covers_result (c : Dev nD) (i : grid0.Coords) (arg1 : Memref sig .tc .vmem S4096x35 .f32) (harg1 : arg1.IsWhole) (arg2 : Memref sig .tc .vmem S32x768 .f32) (harg2 : arg2.IsWhole) (arg3 : Memref sig .tc .vmem S1x768 .f32) (harg3 : arg3.IsWhole) (arg4 : Memref sig .tc .vmem S15x128 .f32) (harg4 : arg4.IsWhole) (arg5 : Memref sig .tc .vmem S64x128 .f32) (harg5 : arg5.IsWhole) (arg6 : Memref sig .tc .vmem S20x128 .f32) (harg6 : arg6.IsWhole) (arg7 : Memref sig .tc .vmem S64x1152 .f32) (harg7 : arg7.IsWhole) (arg8 : Memref sig .tc .vmem S4096x1152 .f32) (harg8 : arg8.IsWhole) (arg9 : Memref sig .tc .vmem S4096x128 .bf16) (harg9 : arg9.IsWhole) (arg10 : Memref sig .tc .vmem S128x768 .bf16) (harg10 : arg10.IsWhole) (arg11 : Memref sig .tc .vmem S128x384 .bf16) (harg11 : arg11.IsWhole) (arg12 : Memref sig .tc .vmem S512x384 .f32) (harg12 : arg12.IsWhole) (hfirst : AtFirst i)
    (x0 : Vec F S4096x35 .f32) (x1 : Vec F S32x768 .f32) (x2 : Vec F S1x768 .f32) (x3 : Vec F S15x128 .f32) (x4 : Vec F S64x128 .f32) (x5 : Vec F S20x128 .f32) (x6 : Vec F S64x1152 .f32) (y : S4096x1152.Idx) :
    ∃ pc ∈ (runFirst c i arg1 harg1 arg2 harg2 arg3 harg3 arg4 harg4 arg5 harg5 arg6 harg6 arg7 harg7 arg8 harg8 arg9 harg9 arg10 harg10 arg11 harg11 arg12 harg12 hfirst x0 x1 x2 x3 x4 x5 x6).1, y ∈ pc.1.set :=
  View.cover_of_tiledBy (runFirst c i arg1 harg1 arg2 harg2 arg3 harg3 arg4 harg4 arg5 harg5 arg6 harg6 arg7 harg7 arg8 harg8 arg9 harg9 arg10 harg10 arg11 harg11 arg12 harg12 hfirst x0 x1 x2 x3 x4 x5 x6).1 ![512, 384] (by sl_kernel_rfl) y

/-- At a later point the stores into the result's block cover it. -/
theorem later_covers_result (c : Dev nD) (i : grid0.Coords) (arg1 : Memref sig .tc .vmem S4096x35 .f32) (harg1 : arg1.IsWhole) (arg2 : Memref sig .tc .vmem S32x768 .f32) (harg2 : arg2.IsWhole) (arg3 : Memref sig .tc .vmem S1x768 .f32) (harg3 : arg3.IsWhole) (arg4 : Memref sig .tc .vmem S15x128 .f32) (harg4 : arg4.IsWhole) (arg5 : Memref sig .tc .vmem S64x128 .f32) (harg5 : arg5.IsWhole) (arg6 : Memref sig .tc .vmem S20x128 .f32) (harg6 : arg6.IsWhole) (arg7 : Memref sig .tc .vmem S64x1152 .f32) (harg7 : arg7.IsWhole) (arg8 : Memref sig .tc .vmem S4096x1152 .f32) (harg8 : arg8.IsWhole) (arg9 : Memref sig .tc .vmem S4096x128 .bf16) (harg9 : arg9.IsWhole) (arg10 : Memref sig .tc .vmem S128x768 .bf16) (harg10 : arg10.IsWhole) (arg11 : Memref sig .tc .vmem S128x384 .bf16) (harg11 : arg11.IsWhole) (arg12 : Memref sig .tc .vmem S512x384 .f32) (harg12 : arg12.IsWhole) (hlater : ¬AtFirst i)
    (x0 : Vec F S4096x35 .f32) (x1 : Vec F S32x768 .f32) (x2 : Vec F S1x768 .f32) (x3 : Vec F S15x128 .f32) (x4 : Vec F S64x128 .f32) (x5 : Vec F S20x128 .f32) (x6 : Vec F S64x1152 .f32) (s0 : Vec F S4096x128 .bf16) (s1 : Vec F S128x768 .bf16) (s2 : Vec F S128x384 .bf16) (s3 : Vec F S512x384 .f32) (y : S4096x1152.Idx) :
    ∃ pc ∈ (runLater c i arg1 harg1 arg2 harg2 arg3 harg3 arg4 harg4 arg5 harg5 arg6 harg6 arg7 harg7 arg8 harg8 arg9 harg9 arg10 harg10 arg11 harg11 arg12 harg12 hlater x0 x1 x2 x3 x4 x5 x6 s0 s1 s2 s3).1, y ∈ pc.1.set :=
  View.cover_of_tiledBy (runLater c i arg1 harg1 arg2 harg2 arg3 harg3 arg4 harg4 arg5 harg5 arg6 harg6 arg7 harg7 arg8 harg8 arg9 harg9 arg10 harg10 arg11 harg11 arg12 harg12 hlater x0 x1 x2 x3 x4 x5 x6 s0 s1 s2 s3).1 ![512, 384] (by sl_kernel_rfl) y

/-- At the first point the stores into scratch buffer 0 cover it. -/
theorem first_covers_scr0 (c : Dev nD) (i : grid0.Coords) (arg1 : Memref sig .tc .vmem S4096x35 .f32) (harg1 : arg1.IsWhole) (arg2 : Memref sig .tc .vmem S32x768 .f32) (harg2 : arg2.IsWhole) (arg3 : Memref sig .tc .vmem S1x768 .f32) (harg3 : arg3.IsWhole) (arg4 : Memref sig .tc .vmem S15x128 .f32) (harg4 : arg4.IsWhole) (arg5 : Memref sig .tc .vmem S64x128 .f32) (harg5 : arg5.IsWhole) (arg6 : Memref sig .tc .vmem S20x128 .f32) (harg6 : arg6.IsWhole) (arg7 : Memref sig .tc .vmem S64x1152 .f32) (harg7 : arg7.IsWhole) (arg8 : Memref sig .tc .vmem S4096x1152 .f32) (harg8 : arg8.IsWhole) (arg9 : Memref sig .tc .vmem S4096x128 .bf16) (harg9 : arg9.IsWhole) (arg10 : Memref sig .tc .vmem S128x768 .bf16) (harg10 : arg10.IsWhole) (arg11 : Memref sig .tc .vmem S128x384 .bf16) (harg11 : arg11.IsWhole) (arg12 : Memref sig .tc .vmem S512x384 .f32) (harg12 : arg12.IsWhole) (hfirst : AtFirst i)
    (x0 : Vec F S4096x35 .f32) (x1 : Vec F S32x768 .f32) (x2 : Vec F S1x768 .f32) (x3 : Vec F S15x128 .f32) (x4 : Vec F S64x128 .f32) (x5 : Vec F S20x128 .f32) (x6 : Vec F S64x1152 .f32) (y : S4096x128.Idx) :
    ∃ pc ∈ (runFirst c i arg1 harg1 arg2 harg2 arg3 harg3 arg4 harg4 arg5 harg5 arg6 harg6 arg7 harg7 arg8 harg8 arg9 harg9 arg10 harg10 arg11 harg11 arg12 harg12 hfirst x0 x1 x2 x3 x4 x5 x6).2.1, y ∈ pc.1.set :=
  View.cover_of_wholeMem ((runFirst c i arg1 harg1 arg2 harg2 arg3 harg3 arg4 harg4 arg5 harg5 arg6 harg6 arg7 harg7 arg8 harg8 arg9 harg9 arg10 harg10 arg11 harg11 arg12 harg12 hfirst x0 x1 x2 x3 x4 x5 x6).2.1) (by sl_whole_mem) y

/-- At the first point the stores into scratch buffer 1 cover it. -/
theorem first_covers_scr1 (c : Dev nD) (i : grid0.Coords) (arg1 : Memref sig .tc .vmem S4096x35 .f32) (harg1 : arg1.IsWhole) (arg2 : Memref sig .tc .vmem S32x768 .f32) (harg2 : arg2.IsWhole) (arg3 : Memref sig .tc .vmem S1x768 .f32) (harg3 : arg3.IsWhole) (arg4 : Memref sig .tc .vmem S15x128 .f32) (harg4 : arg4.IsWhole) (arg5 : Memref sig .tc .vmem S64x128 .f32) (harg5 : arg5.IsWhole) (arg6 : Memref sig .tc .vmem S20x128 .f32) (harg6 : arg6.IsWhole) (arg7 : Memref sig .tc .vmem S64x1152 .f32) (harg7 : arg7.IsWhole) (arg8 : Memref sig .tc .vmem S4096x1152 .f32) (harg8 : arg8.IsWhole) (arg9 : Memref sig .tc .vmem S4096x128 .bf16) (harg9 : arg9.IsWhole) (arg10 : Memref sig .tc .vmem S128x768 .bf16) (harg10 : arg10.IsWhole) (arg11 : Memref sig .tc .vmem S128x384 .bf16) (harg11 : arg11.IsWhole) (arg12 : Memref sig .tc .vmem S512x384 .f32) (harg12 : arg12.IsWhole) (hfirst : AtFirst i)
    (x0 : Vec F S4096x35 .f32) (x1 : Vec F S32x768 .f32) (x2 : Vec F S1x768 .f32) (x3 : Vec F S15x128 .f32) (x4 : Vec F S64x128 .f32) (x5 : Vec F S20x128 .f32) (x6 : Vec F S64x1152 .f32) (y : S128x768.Idx) :
    ∃ pc ∈ (runFirst c i arg1 harg1 arg2 harg2 arg3 harg3 arg4 harg4 arg5 harg5 arg6 harg6 arg7 harg7 arg8 harg8 arg9 harg9 arg10 harg10 arg11 harg11 arg12 harg12 hfirst x0 x1 x2 x3 x4 x5 x6).2.2.1, y ∈ pc.1.set :=
  View.cover_of_wholeMem ((runFirst c i arg1 harg1 arg2 harg2 arg3 harg3 arg4 harg4 arg5 harg5 arg6 harg6 arg7 harg7 arg8 harg8 arg9 harg9 arg10 harg10 arg11 harg11 arg12 harg12 hfirst x0 x1 x2 x3 x4 x5 x6).2.2.1) (by sl_whole_mem) y

/-- At the first point the stores into scratch buffer 2 cover it. -/
theorem first_covers_scr2 (c : Dev nD) (i : grid0.Coords) (arg1 : Memref sig .tc .vmem S4096x35 .f32) (harg1 : arg1.IsWhole) (arg2 : Memref sig .tc .vmem S32x768 .f32) (harg2 : arg2.IsWhole) (arg3 : Memref sig .tc .vmem S1x768 .f32) (harg3 : arg3.IsWhole) (arg4 : Memref sig .tc .vmem S15x128 .f32) (harg4 : arg4.IsWhole) (arg5 : Memref sig .tc .vmem S64x128 .f32) (harg5 : arg5.IsWhole) (arg6 : Memref sig .tc .vmem S20x128 .f32) (harg6 : arg6.IsWhole) (arg7 : Memref sig .tc .vmem S64x1152 .f32) (harg7 : arg7.IsWhole) (arg8 : Memref sig .tc .vmem S4096x1152 .f32) (harg8 : arg8.IsWhole) (arg9 : Memref sig .tc .vmem S4096x128 .bf16) (harg9 : arg9.IsWhole) (arg10 : Memref sig .tc .vmem S128x768 .bf16) (harg10 : arg10.IsWhole) (arg11 : Memref sig .tc .vmem S128x384 .bf16) (harg11 : arg11.IsWhole) (arg12 : Memref sig .tc .vmem S512x384 .f32) (harg12 : arg12.IsWhole) (hfirst : AtFirst i)
    (x0 : Vec F S4096x35 .f32) (x1 : Vec F S32x768 .f32) (x2 : Vec F S1x768 .f32) (x3 : Vec F S15x128 .f32) (x4 : Vec F S64x128 .f32) (x5 : Vec F S20x128 .f32) (x6 : Vec F S64x1152 .f32) (y : S128x384.Idx) :
    ∃ pc ∈ (runFirst c i arg1 harg1 arg2 harg2 arg3 harg3 arg4 harg4 arg5 harg5 arg6 harg6 arg7 harg7 arg8 harg8 arg9 harg9 arg10 harg10 arg11 harg11 arg12 harg12 hfirst x0 x1 x2 x3 x4 x5 x6).2.2.2.1, y ∈ pc.1.set :=
  View.cover_of_wholeMem ((runFirst c i arg1 harg1 arg2 harg2 arg3 harg3 arg4 harg4 arg5 harg5 arg6 harg6 arg7 harg7 arg8 harg8 arg9 harg9 arg10 harg10 arg11 harg11 arg12 harg12 hfirst x0 x1 x2 x3 x4 x5 x6).2.2.2.1) (by sl_whole_mem) y

/-- At the first point the stores into scratch buffer 3 cover it. -/
theorem first_covers_scr3 (c : Dev nD) (i : grid0.Coords) (arg1 : Memref sig .tc .vmem S4096x35 .f32) (harg1 : arg1.IsWhole) (arg2 : Memref sig .tc .vmem S32x768 .f32) (harg2 : arg2.IsWhole) (arg3 : Memref sig .tc .vmem S1x768 .f32) (harg3 : arg3.IsWhole) (arg4 : Memref sig .tc .vmem S15x128 .f32) (harg4 : arg4.IsWhole) (arg5 : Memref sig .tc .vmem S64x128 .f32) (harg5 : arg5.IsWhole) (arg6 : Memref sig .tc .vmem S20x128 .f32) (harg6 : arg6.IsWhole) (arg7 : Memref sig .tc .vmem S64x1152 .f32) (harg7 : arg7.IsWhole) (arg8 : Memref sig .tc .vmem S4096x1152 .f32) (harg8 : arg8.IsWhole) (arg9 : Memref sig .tc .vmem S4096x128 .bf16) (harg9 : arg9.IsWhole) (arg10 : Memref sig .tc .vmem S128x768 .bf16) (harg10 : arg10.IsWhole) (arg11 : Memref sig .tc .vmem S128x384 .bf16) (harg11 : arg11.IsWhole) (arg12 : Memref sig .tc .vmem S512x384 .f32) (harg12 : arg12.IsWhole) (hfirst : AtFirst i)
    (x0 : Vec F S4096x35 .f32) (x1 : Vec F S32x768 .f32) (x2 : Vec F S1x768 .f32) (x3 : Vec F S15x128 .f32) (x4 : Vec F S64x128 .f32) (x5 : Vec F S20x128 .f32) (x6 : Vec F S64x1152 .f32) (y : S512x384.Idx) :
    ∃ pc ∈ (runFirst c i arg1 harg1 arg2 harg2 arg3 harg3 arg4 harg4 arg5 harg5 arg6 harg6 arg7 harg7 arg8 harg8 arg9 harg9 arg10 harg10 arg11 harg11 arg12 harg12 hfirst x0 x1 x2 x3 x4 x5 x6).2.2.2.2.1, y ∈ pc.1.set :=
  View.cover_of_tiledL ((runFirst c i arg1 harg1 arg2 harg2 arg3 harg3 arg4 harg4 arg5 harg5 arg6 harg6 arg7 harg7 arg8 harg8 arg9 harg9 arg10 harg10 arg11 harg11 arg12 harg12 hfirst x0 x1 x2 x3 x4 x5 x6).2.2.2.2.1) S64x384.size (by sl_kernel_rfl) y

/-! ## The contents, point by point -/

variable (m : (ℓ : Loc nD τ sig) → Buf (Elt F) ℓ) (ρ : Dev nD → PrngReg)

/-- The first point's run, on the buffers and blocks the pipeline gives the body there. -/
abbrev firstAt (c : Dev nD) (t : Fin cfg0.N) (h : t.val = 0) :=
  runFirst c (grid0.coords t) (stg0 t) (whole0 t) (stg1 t) (whole1 t) (stg2 t) (whole2 t) (stg3 t) (whole3 t) (stg4 t) (whole4 t) (stg5 t) (whole5 t) (stg6 t) (whole6 t) (stg7 t) (whole7 t) scr0 (Memref.isWhole_whole _) scr1 (Memref.isWhole_whole _) scr2 (Memref.isWhole_whole _) scr3 (Memref.isWhole_whole _) ((atFirst_iff t).mpr h) (iblk m c 0 t) (iblk m c 1 t) (iblk m c 2 t) (iblk m c 3 t) (iblk m c 4 t) (iblk m c 5 t) (iblk m c 6 t)

/-- A later point's run, on the buffers and blocks the pipeline gives the body there, the scratch buffers at `s0` … `s3`. -/
abbrev laterAt (c : Dev nD) (t : Fin cfg0.N) (h : ¬t.val = 0) (s0 : Vec F S4096x128 .bf16) (s1 : Vec F S128x768 .bf16) (s2 : Vec F S128x384 .bf16) (s3 : Vec F S512x384 .f32) :=
  runLater c (grid0.coords t) (stg0 t) (whole0 t) (stg1 t) (whole1 t) (stg2 t) (whole2 t) (stg3 t) (whole3 t) (stg4 t) (whole4 t) (stg5 t) (whole5 t) (stg6 t) (whole6 t) (stg7 t) (whole7 t) scr0 (Memref.isWhole_whole _) scr1 (Memref.isWhole_whole _) scr2 (Memref.isWhole_whole _) scr3 (Memref.isWhole_whole _) (fun a => h ((atFirst_iff t).mp a)) (iblk m c 0 t) (iblk m c 1 t) (iblk m c 2 t) (iblk m c 3 t) (iblk m c 4 t) (iblk m c 5 t) (iblk m c 6 t) s0 s1 s2 s3

/-- The contents of the four scratch buffers. -/
abbrev Scratch (F : FTy → Type) : Type :=
  Vec F S4096x128 .bf16 × Vec F S128x768 .bf16 × Vec F S128x384 .bf16 × Vec F S512x384 .f32

/-- What the first point leaves in the scratch buffers: its assembling stores and its stores of features, read back. -/
def firstScratch (c : Dev nD) (t : Fin cfg0.N) (h : t.val = 0) : Scratch F :=
  (scr0.view.read (Elt F) (scr0.view.writes (Elt F) scr0.view.junk (firstAt m c t h).2.1), scr1.view.read (Elt F) (scr1.view.writes (Elt F) scr1.view.junk (firstAt m c t h).2.2.1), scr2.view.read (Elt F) (scr2.view.writes (Elt F) scr2.view.junk (firstAt m c t h).2.2.2.1), scr3.view.read (Elt F) (scr3.view.writes (Elt F) scr3.view.junk (firstAt m c t h).2.2.2.2.1))

/-- What a later point leaves in the scratch buffers that held `p`: its stores of features made over the features, the
    other three unchanged. -/
def laterScratch (c : Dev nD) (t : Fin cfg0.N) (h : ¬t.val = 0) (p : Scratch F) : Scratch F :=
  (scr0.view.read (Elt F) (scr0.view.writes (Elt F) ((Memref.isWhole_whole cc0_scratch0).unread p.1)
    (laterAt m c t h p.1 p.2.1 p.2.2.1 p.2.2.2).2.1), p.2)

/-- The scratch buffers after point `n`. -/
def scratchAfter (c : Dev nD) : (n : ℕ) → n < cfg0.N → Scratch F
  | 0, h => firstScratch m c ⟨0, h⟩ rfl
  | n + 1, h => laterScratch m c ⟨n + 1, h⟩ (Nat.succ_ne_zero n) (scratchAfter c n (Nat.lt_of_succ_lt h))

/-- The scratch buffers as a point other than the first finds them: what the point before left. -/
abbrev scratchBefore (c : Dev nD) (t : Fin cfg0.N) : Scratch F :=
  scratchAfter m c (t.val - 1) (Nat.lt_of_le_of_lt (Nat.sub_le _ _) t.isLt)

/-- One buffer through which the result's block is stated. -/
abbrev outV : View sig .tc .vmem S4096x1152 .f32 := (Memref.whole cc0_stg7_0 : Memref sig .tc .vmem S4096x1152 .f32).view

/-- The block of the result that point `t` leaves. -/
def outAt (c : Dev nD) (t : Fin cfg0.N) : Vec F S4096x1152 .f32 :=
  if h : t.val = 0 then outV.read (Elt F) (outV.writes (Elt F) outV.junk (firstAt m c t h).1)
  else outV.read (Elt F) (outV.writes (Elt F) outV.junk
    (laterAt m c t h (scratchBefore m c t).1 (scratchBefore m c t).2.1 (scratchBefore m c t).2.2.1 (scratchBefore m c t).2.2.2).1)

/-- The first point's scratch contents, at a point known to be the first. -/
theorem scratchAfter_first (c : Dev nD) (t : Fin cfg0.N) (h : t.val = 0) :
    scratchAfter m c t.val t.isLt = firstScratch m c t h := by
  obtain ⟨n, hn⟩ := t
  cases n with
  | zero => rfl
  | succ n => exact absurd h (Nat.succ_ne_zero n)

/-- A later point's scratch contents, over what the point before left. -/
theorem scratchAfter_later (c : Dev nD) (t : Fin cfg0.N) (h : ¬t.val = 0) :
    scratchAfter m c t.val t.isLt = laterScratch m c t h (scratchBefore m c t) := by
  obtain ⟨n, hn⟩ := t
  cases n with
  | zero => exact absurd rfl h
  | succ n => rfl

/-- The scratch buffers held at `p`, and the generator register at some state. -/
def holds (c : Dev nD) (p : Scratch F) : sProp 𝕄 :=
  iprop(iprop(owns (c : Thread nD τ) scr0 fullShare p.1 ∗ owns (c : Thread nD τ) scr1 fullShare p.2.1
      ∗ owns (c : Thread nD τ) scr2 fullShare p.2.2.1 ∗ owns (c : Thread nD τ) scr3 fullShare p.2.2.2)
    ∗ (∃ r, prngReg c r))

/-- The invariant before point `n`: the launch's before the first, then the scratch buffers at what the point before
    left in them. -/
def inv (c : Dev nD) : (n : ℕ) → n ≤ cfg0.N → sProp 𝕄
  | 0, _ => Pipeline.ΦA spec0 c
  | n + 1, hn => holds c (scratchAfter m c n hn)

theorem inv_zero (c : Dev nD) (n : ℕ) (h : n ≤ cfg0.N) (hz : n = 0) : inv m c n h = Pipeline.ΦA spec0 c := by
  subst hz; rfl

theorem inv_succ (c : Dev nD) (n : ℕ) (hn : n < cfg0.N) : inv m c (n + 1) hn = holds c (scratchAfter m c n hn) := rfl

theorem inv_pos (c : Dev nD) (n : ℕ) (h : n ≤ cfg0.N) (hz : n ≠ 0) :
    inv m c n h = holds c (scratchAfter m c (n - 1) (by omega)) := by
  cases n with
  | zero => exact absurd rfl hz
  | succ n => rfl

/-! ## The pipeline's proof data -/

/-- The proof data on core `c`: the arrays as the region finds them; after the body at point `t` each input's buffer at
    its block and the result's at `outAt`; the invariant `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := inv m c t.val (Nat.le_of_lt_succ t.isLt)
  q _ := fullShare
  owed _ := 0

/-- The proof data's arrays are the region's. -/
theorem A_eq (c : Dev nD) (w : Fin cfg0.W) : (dats m 0 c).A w = V m c (Pipeline.arrRef spec0 w) := by
  dsimp only [dats]

/-- The invariant at a point's start. -/
theorem inv_castSucc (c : Dev nD) (t : Fin cfg0.N) :
    (dats m 0 c).Φ t.castSucc = inv m c t.val (Nat.le_of_lt t.isLt) := by
  dsimp only [dats]; exact Pipeline.Dat.Φ_castSucc (inv m c) t

/-- What the body leaves in each window's buffer. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

/-- Each input's buffer holds its block when the body starts. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body's obligation -/

/-- What the body is given at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d)))

/-- What it gives back. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t))

set_option maxHeartbeats 9600000 in
/-- The body's triple at every point: at the first the scratch buffers come in at anything, at a later one at what the
    point before left; each run's pieces then read back as `scratchAfter` and `outAt` say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7]
  rw [show (dats m 0 c).Φ t.succ = inv m c (t.val + 1) t.isLt from rfl, inv_succ]
  by_cases h0 : t.val = 0
  · rw [inv_castSucc m c t, inv_zero m c _ _ h0, launch_inv, scratchAfter_first m c t h0]
    unfold holds outAt firstScratch; rw [dif_pos h0]; dsimp only
    iintro ⟨⟨⟨S0, S1, S2, S3⟩, G⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstAt m c t h0).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S0]; · iexact S0
    isplitl [S1]; · iexact S1
    isplitl [S2]; · iexact S2
    isplitl [S3]; · iexact S3
    iintro ⟨H0, H1, H2, H3, H4, H5, H6, ⟨%e7, H7⟩, ⟨%e0, S0⟩, ⟨%e1, S1⟩, ⟨%e2, S2⟩, ⟨%e3, S3⟩⟩
    isplitl [S0 S1 S2 S3 G]
    · isplitl [S0 S1 S2 S3]
      · isplitl [S0]
        · unfold owns; iexists _; isplitr
          swap; · iexact S0
          ipureintro; exact View.read_writes_of_cover _ _ _ _ _ (first_covers_scr0 c _ _ _ _ _ _ _ _ _ _ _ _ _ _ _ _ _ _ _ _ _ _ _ _ _ _ _ _ _ _ _ _ _)
        isplitl [S1]
        · unfold owns; iexists _; isplitr
          swap; · iexact S1
          ipureintro; exact View.read_writes_of_cover _ _ _ _ _ (first_covers_scr1 c _ _ _ _ _ _ _ _ _ _ _ _ _ _ _ _ _ _ _ _ _ _ _ _ _ _ _ _ _ _ _ _ _)
        isplitl [S2]
        · unfold owns; iexists _; isplitr
          swap; · iexact S2
          ipureintro; exact View.read_writes_of_cover _ _ _ _ _ (first_covers_scr2 c _ _ _ _ _ _ _ _ _ _ _ _ _ _ _ _ _ _ _ _ _ _ _ _ _ _ _ _ _ _ _ _ _)
        unfold owns; iexists _; isplitr
        swap; · iexact S3
        ipureintro; exact View.read_writes_of_cover _ _ _ _ _ (first_covers_scr3 c _ _ _ _ _ _ _ _ _ _ _ _ _ _ _ _ _ _ _ _ _ _ _ _ _ _ _ _ _ _ _ _ _)
      iexact G
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (first_covers_result c _ _ _ _ _ _ _ _ _ _ _ _ _ _ _ _ _ _ _ _ _ _ _ _ _ _ _ _ _ _ _ _ _)
  · rw [inv_castSucc m c t, inv_pos m c _ _ h0, scratchAfter_later m c t h0]
    unfold holds outAt laterScratch; rw [dif_neg h0]; dsimp only
    iintro ⟨⟨⟨S0, S1, S2, S3⟩, G⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((laterAt m c t h0 _ _ _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S0]; · iexact S0
    isplitl [S1]; · iexact S1
    isplitl [S2]; · iexact S2
    isplitl [S3]; · iexact S3
    iintro ⟨H0, H1, H2, H3, H4, H5, H6, ⟨%e7, H7⟩, S0, S1, S2, S3⟩
    isplitl [S0 S1 S2 S3 G]
    · isplitl [S0 S1 S2 S3]
      · isplitl [S0]
        · unfold owns; iexists _; isplitr
          swap; · iexact S0
          ipureintro; rfl
        isplitl [S1]; · iexact S1
        isplitl [S2]; · iexact S2
        iexact S3
      iexact G
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (later_covers_result c _ _ _ _ _ _ _ _ _ _ _ _ _ _ _ _ _ _ _ _ _ _ _ _ _ _ _ _ _ _ _ _ _ _ _ _ _)

/-- The body table's row at a point is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch gives the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the scratch buffers back, at anything. -/
theorem hout (c : Dev nD) : (dats m 0 c).Φ (Fin.last cfg0.N) ⊢ Pipeline.ΦA spec0 c := by
  have hz : (Fin.last cfg0.N).val ≠ 0 := by rw [Fin.val_last]; have : cfg0.N = 64 := N_0; omega
  rw [show (dats m 0 c).Φ (Fin.last cfg0.N) = inv m c (Fin.last cfg0.N).val (Nat.le_of_lt_succ (Fin.last cfg0.N).isLt) from rfl,
    inv_pos m c _ _ hz, launch_inv]
  unfold holds
  iintro ⟨⟨S0, S1, S2, S3⟩, G⟩
  isplitl [S0 S1 S2 S3]
  · isplitl [S0]
    · iexists _; iexact S0
    isplitl [S1]
    · iexists _; iexact S1
    isplitl [S2]
    · iexists _; iexact S2
    iexists _; iexact S3
  iexact G

/-! ## The run and the frame -/

set_option backward.isDefEq.respectTransparency.types false in
set_option maxHeartbeats 800000 in
/-- The run of the whole program: at every final state the arrays of the pipeline are what the proof data compute,
    every other buffer is as the lines after the region leave it, and every semaphore counter is zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame: every execution ends, the seven argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.KernelIdeal.Fused

end
-- ==== Proof.Ideal.Payloads.lean ====
/-
  The idealized kernel's stored values at an index, over the extended reals.
-/
module

public import proofs.«01_k».proof.Proof.Ideal.Launch
public import Idealize.ShloMosaic.Lib.Pointwise

@[expose] public section

set_option maxRecDepth 16384

noncomputable section

namespace Cert.KernelIdeal.Fused

open Cert.KernelIdeal.Gen
open Idealize.ShloMosaic Idealize.ShloMosaic.Tactic

/-! ## The one-hot coefficients -/

/-- A bit, read as a number. -/
def bit (b : BitVec 1) : EReal := FloatOps.sitofp (F := Ideal) .f32 (BitVec.setWidth 32 b)

/-- A bit reads as one or zero. -/
theorem bit_eq (b : BitVec 1) : bit b = if b = 1#1 then 1 else 0 := by
  have h : b = 0#1 ∨ b = 1#1 := by
    have := b.isLt
    rcases (show b.toNat = 0 ∨ b.toNat = 1 by omega) with h | h
    · left; exact BitVec.eq_of_toNat_eq h
    · right; exact BitVec.eq_of_toNat_eq h
  rcases h with rfl | rfl
  · show (((BitVec.setWidth 32 0#1).toInt : ℝ) : EReal) = _
    rw [if_neg (by decide)]; norm_num
  · show (((BitVec.setWidth 32 1#1).toInt : ℝ) : EReal) = _
    rw [if_pos rfl]; norm_num

/-- A row's coefficient of row `k` of the joined table: one where `k` is the first index, the second moved by 15, or the
    third moved by 79. -/
def hot (d p g : BitVec 32) (k : Fin 128) : EReal :=
  bit (IntOp.ori (IntOp.ori (IntOp.cmpi .eq (BitVec.ofNat 32 k) d) (IntOp.cmpi .eq (BitVec.ofNat 32 k) (IntOp.addi p 15#32)))
    (IntOp.cmpi .eq (BitVec.ofNat 32 k) (IntOp.addi (IntOp.addi g 15#32) 64#32)))

/-- The fixed features: at row `r`, one in column 32 more than the row's place in its sample and in column 96. -/
def tail (r : Fin 4096) (k : Fin 128) : EReal :=
  bit (IntOp.ori (IntOp.cmpi .eq (IntOp.subi (BitVec.ofNat 32 k) 32#32) (IntOp.andi (BitVec.ofNat 32 r) 63#32))
    (IntOp.cmpi .eq (BitVec.ofNat 32 k) 96#32))

/-- A row's table index, read from a float. -/
def word (x : EReal) : BitVec 32 := FloatOps.fptosi (F := Ideal) (φ := .f32) 32 x

/-! ## The values stored -/

/-- The left product of a chunk. -/
theorem left_apply (w : Vec Ideal S128x768 .bf16) (v : Vec Ideal S512x128 .bf16) (q : Fin 512) (j : Fin 768) :
    k0_pay27 (F := Ideal) w v (ix2 q j) = ∑ k : Fin 128, v (ix2 q k) * w (ix2 k j) := by
  pointwise [k0_pay27]

/-- The right product of a chunk, the table positions added. -/
theorem right_apply (p : Vec Ideal S512x384 .f32) (w : Vec Ideal S128x384 .bf16) (v : Vec Ideal S512x35 .f32) (q : Fin 512) (j : Fin 384) :
    k0_pay28 (F := Ideal) p w v (ix2 q j)
      = (∑ k : Fin 128, hot (word (v (ix2 q 33))) (word (v (ix2 q 32))) (word (v (ix2 q 34))) k * w (ix2 k j)) + p (ix2 q j) := by
  unfold hot word bit
  pointwise [k0_pay28, k0_pay25]

/-- The continuous features of a chunk. -/
theorem cut_apply (v : Vec Ideal S512x35 .f32) (q : Fin 512) (k : Fin 32) :
    k0_pay26 (F := Ideal) v (ix2 q k) = v (ix2 q ⟨k.val, by omega⟩) := by
  pointwise [k0_pay26, k0_pay25]

/-- The features' fixed part. -/
theorem tail_apply (r : Fin 4096) (k : Fin 128) : k0_pay11 (F := Ideal) (ix2 r k) = tail r k := by
  unfold tail bit
  pointwise [k0_pay11]

theorem zero1_apply (r : Fin 128) (j : Fin 768) : k0_pay3 (F := Ideal) (ix2 r j) = 0 := by pointwise [k0_pay3]
theorem zero2_apply (r : Fin 128) (j : Fin 384) : k0_pay7 (F := Ideal) (ix2 r j) = 0 := by pointwise [k0_pay7]
theorem weight_apply (v : Vec Ideal S32x768 .f32) (r : Fin 32) (j : Fin 768) : k0_pay4 (F := Ideal) v (ix2 r j) = v (ix2 r j) := by
  pointwise [k0_pay4]
theorem place_apply (v : Vec Ideal S64x768 .f32) (r : Fin 64) (j : Fin 768) : k0_pay5 (F := Ideal) v (ix2 r j) = v (ix2 r j) := by
  pointwise [k0_pay5]
theorem bias_apply (v : Vec Ideal S1x768 .f32) (r : Fin 1) (j : Fin 768) : k0_pay6 (F := Ideal) v (ix2 r j) = v (ix2 r j) := by
  pointwise [k0_pay6]
theorem dd_apply (v : Vec Ideal S15x128 .f32) (r : Fin 15) (j : Fin 128) : k0_pay8 (F := Ideal) v (ix2 r j) = v (ix2 r j) := by
  pointwise [k0_pay8]
theorem plate_apply (v : Vec Ideal S64x128 .f32) (r : Fin 64) (j : Fin 128) : k0_pay9 (F := Ideal) v (ix2 r j) = v (ix2 r j) := by
  pointwise [k0_pay9]
theorem mag_apply (v : Vec Ideal S20x128 .f32) (r : Fin 20) (j : Fin 128) : k0_pay10 (F := Ideal) v (ix2 r j) = v (ix2 r j) := by
  pointwise [k0_pay10]
theorem place2_apply (v : Vec Ideal S64x384 .f32) (r : Fin 64) (j : Fin 384) : k0_pay12 (F := Ideal) v (ix2 r j) = v (ix2 r j) := by
  pointwise [k0_pay12]

/-! The chunks store the same values. -/
theorem l1 (w : Vec Ideal S128x768 .bf16) (v : Vec Ideal S512x128 .bf16) : k0_pay1 (F := Ideal) w v = k0_pay27 w v := rfl
theorem l23 (w : Vec Ideal S128x768 .bf16) (v : Vec Ideal S512x128 .bf16) : k0_pay23 (F := Ideal) w v = k0_pay27 w v := rfl
theorem r24 (p : Vec Ideal S512x384 .f32) (w : Vec Ideal S128x384 .bf16) (v : Vec Ideal S512x35 .f32) :
  k0_pay24 (F := Ideal) p w (k0_pay22 v) = k0_pay28 p w v := rfl
theorem r46 (p : Vec Ideal S512x384 .f32) (w : Vec Ideal S128x384 .bf16) (v : Vec Ideal S512x35 .f32) :
  k0_pay46 (F := Ideal) p w (k0_pay44 v) = k0_pay28 p w v := rfl
theorem r41 (p : Vec Ideal S512x384 .f32) (w : Vec Ideal S128x384 .bf16) (v : Vec Ideal S512x35 .f32) :
  k0_pay41 (F := Ideal) p w (k0_pay37 v) = k0_pay28 p w v := rfl
theorem r2 (p : Vec Ideal S512x384 .f32) (w : Vec Ideal S128x384 .bf16) (v : Vec Ideal S512x35 .f32) :
  k0_pay2 (F := Ideal) p w runFirst.sl.v231 (k0_pay57 v) (k0_pay58 v) = k0_pay28 p w v := rfl
theorem r53 (p : Vec Ideal S512x384 .f32) (w : Vec Ideal S128x384 .bf16) (v : Vec Ideal S512x35 .f32) :
  k0_pay53 (F := Ideal) p w (k0_pay49 v) runFirst.sl.v231 (k0_pay50 v) (k0_pay51 v) 15#32 = k0_pay28 p w v := rfl
theorem c39 (v : Vec Ideal S512x35 .f32) : k0_pay39 (F := Ideal) (k0_pay38 v) = k0_pay26 v := rfl
theorem c55 (v : Vec Ideal S512x35 .f32) : k0_pay55 (F := Ideal) v = k0_pay26 v := rfl

end Cert.KernelIdeal.Fused

end
-- ==== Proof.Ideal.Blocks.lean ====
/-
  The idealized kernel's features and the blocks it stores of its result: one lemma for every chunk's left piece, one for
  every chunk's right piece.
-/
module

public import proofs.«01_k».proof.Proof.Ideal.Payloads
public import Idealize.ShloMosaic.Lib.Pointwise
public import Idealize.ShloMosaic.Lib.WritesUnit
public import Idealize.ShloMosaic.Lib.WholeRead

@[expose] public section

set_option maxRecDepth 16384

noncomputable section

namespace Cert.KernelIdeal.Fused

open Cert.KernelIdeal.Gen
open Idealize.ShloMosaic Idealize.ShloMosaic.Tactic

/-! ## Where rectangles place an index -/

/-- A rectangle places row `q`, column `j` at its offsets plus these. -/
theorem emb_ix2 {d0 d1 n0 n1 o0 o1 : ℕ} (inb : ∀ a : Fin 2, (![o0, o1] : Fin 2 → ℕ) a + (![n0, n1] : Fin 2 → ℕ) a ≤ (![d0, d1] : Fin 2 → ℕ) a)
    (q : Fin n0) (j : Fin n1) :
    (Rect.unit (s := ⟨2, ![d0, d1]⟩) ![o0, o1] ![n0, n1] inb).emb (ix2 q j)
      = ix2 ⟨o0 + q.val, Nat.lt_of_lt_of_le (Nat.add_lt_add_left q.isLt o0) (inb 0)⟩
          ⟨o1 + j.val, Nat.lt_of_lt_of_le (Nat.add_lt_add_left j.isLt o1) (inb 1)⟩ := by
  funext a; apply Fin.ext
  refine Fin.cases ?_ (fun b => ?_) a
  · show o0 + 1 * q.val = o0 + q.val
    rw [Nat.one_mul]
  · obtain rfl : b = 0 := Subsingleton.elim _ _
    show o1 + 1 * j.val = o1 + j.val
    rw [Nat.one_mul]

/-- A load through a rectangle reads the view at the place the rectangle puts the index. -/
theorem load_ix2 {κ : Kind} {sp : Space} {e : EltTy} {d0 d1 n0 n1 o0 o1 : ℕ} (v : View sig κ sp ⟨2, ![d0, d1]⟩ e) (f : v.ty.Contents (Elt Ideal))
    (inb : ∀ a : Fin 2, (![o0, o1] : Fin 2 → ℕ) a + (![n0, n1] : Fin 2 → ℕ) a ≤ (![d0, d1] : Fin 2 → ℕ) a) (q : Fin n0) (j : Fin n1) :
    v.readAt (Elt Ideal) (Rect.unit (s := ⟨2, ![d0, d1]⟩) ![o0, o1] ![n0, n1] inb).toLoadRect f (ix2 q j)
      = v.read (Elt Ideal) f (ix2 ⟨o0 + q.val, Nat.lt_of_lt_of_le (Nat.add_lt_add_left q.isLt o0) (inb 0)⟩
          ⟨o1 + j.val, Nat.lt_of_lt_of_le (Nat.add_lt_add_left j.isLt o1) (inb 1)⟩) :=
  congrArg (v.read (Elt Ideal) f) (emb_ix2 inb q j)

/-- An index under the newest store reads what it stores there. -/
theorem hit_ix2 {κ : Kind} {sp : Space} {e : EltTy} {d0 d1 n0 n1 o0 o1 : ℕ} (v : View sig κ sp ⟨2, ![d0, d1]⟩ e) (f : v.ty.Contents (Elt Ideal))
    (inb : ∀ a : Fin 2, (![o0, o1] : Fin 2 → ℕ) a + (![n0, n1] : Fin 2 → ℕ) a ≤ (![d0, d1] : Fin 2 → ℕ) a)
    (w : (⟨2, ![n0, n1]⟩ : Shape).Idx → Elt Ideal e) (L : List (View.Piece (Elt Ideal) ⟨2, ![d0, d1]⟩ e)) (k : Fin d0) (j : Fin d1)
    (q : Fin n0) (t : Fin n1) (h0 : k.val = o0 + q.val) (h1 : j.val = o1 + t.val) :
    v.read (Elt Ideal) (v.writes (Elt Ideal) f (⟨Rect.unit (s := ⟨2, ![d0, d1]⟩) ![o0, o1] ![n0, n1] inb, w⟩ :: L)) (ix2 k j) = w (ix2 q t) :=
  View.read_writes_cons_unit_of_mem v f inb w L (ix2 k j) (ix2 q t) rfl (Fin.forall_fin_two.mpr ⟨h0, h1⟩)

/-- A load of a whole buffer held at `x` reads `x` there. -/
theorem load_whole {κ : Kind} {sp : Space} {e : EltTy} {d0 d1 n0 n1 o0 o1 : ℕ} {a : Memref sig κ sp ⟨2, ![d0, d1]⟩ e} (ha : a.IsWhole)
    (x : Vec Ideal ⟨2, ![d0, d1]⟩ e)
    (inb : ∀ a : Fin 2, (![o0, o1] : Fin 2 → ℕ) a + (![n0, n1] : Fin 2 → ℕ) a ≤ (![d0, d1] : Fin 2 → ℕ) a) (q : Fin n0) (j : Fin n1) :
    a.view.readAt (Elt Ideal) (Rect.unit (s := ⟨2, ![d0, d1]⟩) ![o0, o1] ![n0, n1] inb).toLoadRect (ha.unread x) (ix2 q j)
      = x (ix2 ⟨o0 + q.val, Nat.lt_of_lt_of_le (Nat.add_lt_add_left q.isLt o0) (inb 0)⟩
          ⟨o1 + j.val, Nat.lt_of_lt_of_le (Nat.add_lt_add_left j.isLt o1) (inb 1)⟩) := by
  rw [load_ix2, ha.read_unread]

/-! ## The features -/

/-- The features of a block `x`: its continuous entries in the first 32 columns, the fixed part in the rest. -/
def feat (x : Vec Ideal S4096x35 .f32) (r : Fin 4096) (k : Fin 128) : EReal :=
  if h : k.val < 32 then x (ix2 r ⟨k.val, by omega⟩) else tail r k

/-- The features in columns 32 and up. -/
theorem feat_high (x : Vec Ideal S4096x35 .f32) (r : Fin 4096) (k : Fin 128) (h : ¬k.val < 32) : feat x r k = tail r k := dif_neg h

/-- The stores of `L` leave the fixed part of the features in columns 32 and up. -/
def Keeps (v : View sig .tc .vmem S4096x128 .bf16) (f : v.ty.Contents (Elt Ideal)) (L : List (View.Piece (Elt Ideal) S4096x128 .bf16)) : Prop :=
  ∀ (r : Fin 4096) (k : Fin 128), 32 ≤ k.val → v.read (Elt Ideal) (v.writes (Elt Ideal) f L) (ix2 r k) = tail r k

/-- A further store into the first 32 columns keeps the fixed part. -/
theorem Keeps.cons {v : View sig .tc .vmem S4096x128 .bf16} {f : v.ty.Contents (Elt Ideal)} {L : List (View.Piece (Elt Ideal) S4096x128 .bf16)}
    (h : Keeps v f L) {lo : ℕ} (inb : ∀ a : Fin 2, (![lo, 0] : Fin 2 → ℕ) a + S512x32.size a ≤ S4096x128.size a)
    (w : (Rect.unit (s := S4096x128) ![lo, 0] S512x32.size inb).shape.Idx → Elt Ideal .bf16) :
    Keeps v f (⟨Rect.unit ![lo, 0] S512x32.size inb, w⟩ :: L) := by
  intro r k hk
  rw [View.read_writes_cons_unit_of_not_mem v f inb w L (ix2 r k) rfl (1 : Fin 2) (Or.inr (by show 0 + 32 ≤ k.val; omega))]
  exact h r k hk

/-- After a chunk's store of its continuous entries, its load of the features reads them. -/
theorem chunk_features {v : View sig .tc .vmem S4096x128 .bf16} {f : v.ty.Contents (Elt Ideal)} {L : List (View.Piece (Elt Ideal) S4096x128 .bf16)}
    (h : Keeps v f L) {a : Memref sig .tc .vmem S4096x35 .f32} (ha : a.IsWhole) (x : Vec Ideal S4096x35 .f32) {lo : ℕ}
    (inb : ∀ a : Fin 2, (![lo, 0] : Fin 2 → ℕ) a + S512x32.size a ≤ S4096x128.size a)
    (inb1 : ∀ a : Fin 2, (![lo, 0] : Fin 2 → ℕ) a + S512x128.size a ≤ S4096x128.size a)
    (inb2 : ∀ a : Fin 2, (![lo, 0] : Fin 2 → ℕ) a + S512x35.size a ≤ S4096x35.size a) (q : Fin 512) (k : Fin 128) :
    v.readAt (Elt Ideal) (Rect.unit (s := S4096x128) ![lo, 0] S512x128.size inb1).toLoadRect (v.writes (Elt Ideal) f
      (⟨Rect.unit (s := S4096x128) ![lo, 0] S512x32.size inb, k0_pay26 (F := Ideal) (a.view.readAt (Elt Ideal) (Rect.unit (s := S4096x35) ![lo, 0] S512x35.size inb2).toLoadRect (ha.unread x))⟩ :: L)) (ix2 q k)
      = feat x ⟨lo + q.val, Nat.lt_of_lt_of_le (Nat.add_lt_add_left q.isLt lo) (inb1 0)⟩ k := by
  refine (load_ix2 v _ inb1 q k).trans ?_
  by_cases hk : k.val < 32
  · rw [View.read_writes_cons_unit_of_mem v f inb _ L _ (ix2 (n0 := 512) (n1 := 32) q ⟨k.val, hk⟩) rfl (fun a => by
      refine Fin.cases ?_ (fun b => ?_) a
      · rfl
      · obtain rfl : b = 0 := Subsingleton.elim _ _
        rfl)]
    refine (cut_apply _ q ⟨k.val, hk⟩).trans ?_
    refine (load_whole ha x inb2 q ⟨k.val, by omega⟩).trans ?_
    unfold feat; rw [dif_pos hk]
    congr 2; apply Fin.ext; exact Nat.zero_add _
  · have e : (ix2 (n0 := 4096) (n1 := 128) ⟨lo + q.val, Nat.lt_of_lt_of_le (Nat.add_lt_add_left q.isLt lo) (inb1 0)⟩ ⟨0 + k.val, Nat.lt_of_lt_of_le (Nat.add_lt_add_left k.isLt 0) (inb1 1)⟩) = ix2 ⟨lo + q.val, Nat.lt_of_lt_of_le (Nat.add_lt_add_left q.isLt lo) (inb1 0)⟩ k := by
      congr 1; apply Fin.ext; exact Nat.zero_add _
    rw [e]
    refine (h.cons inb _ _ k (by omega)).trans ?_
    exact (feat_high x _ k hk).symm

/-! ## The block of the result -/

/-- A block's left part: the features times the joined weights. -/
def leftBlock (x : Vec Ideal S4096x35 .f32) (w1 : Vec Ideal S128x768 .bf16) (r : Fin 4096) (j : Fin 768) : EReal :=
  ∑ k : Fin 128, feat x r k * w1 (ix2 k j)

/-- A block's right part: the one-hot coefficients times the joined tables, the positions added. -/
def rightBlock (x : Vec Ideal S4096x35 .f32) (w2 : Vec Ideal S128x384 .bf16) (p : Vec Ideal S512x384 .f32) (r : Fin 4096) (j : Fin 384) : EReal :=
  (∑ k : Fin 128, hot (word (x (ix2 r 33))) (word (x (ix2 r 32))) (word (x (ix2 r 34))) k * w2 (ix2 k j)) + p (ix2 ⟨r.val % 512, by omega⟩ j)

/-- A block of the result. -/
def block (x : Vec Ideal S4096x35 .f32) (w1 : Vec Ideal S128x768 .bf16) (w2 : Vec Ideal S128x384 .bf16) (p : Vec Ideal S512x384 .f32) :
    Vec Ideal S4096x1152 .f32 :=
  fun y => if h : (y 1).val < 768 then leftBlock x w1 (y 0) ⟨(y 1).val, h⟩
    else rightBlock x w2 p (y 0) ⟨(y 1).val - 768, by have : (y 1).val < 1152 := (y 1).isLt; omega⟩

/-- The block in its first 768 columns. -/
theorem block_left (x : Vec Ideal S4096x35 .f32) (w1 : Vec Ideal S128x768 .bf16) (w2 : Vec Ideal S128x384 .bf16) (p : Vec Ideal S512x384 .f32)
    (r : Fin 4096) (t : Fin 1152) (h : t.val < 768) : block x w1 w2 p (ix2 r t) = leftBlock x w1 r ⟨t.val, h⟩ := dif_pos h

/-- The block in its last 384 columns. -/
theorem block_right (x : Vec Ideal S4096x35 .f32) (w1 : Vec Ideal S128x768 .bf16) (w2 : Vec Ideal S128x384 .bf16) (p : Vec Ideal S512x384 .f32)
    (r : Fin 4096) (t : Fin 1152) (h : ¬t.val < 768) :
    block x w1 w2 p (ix2 r t) = rightBlock x w2 p r ⟨t.val - 768, by omega⟩ := dif_neg h

/-- A chunk's left piece is the block where it lies. -/
theorem left_piece {v : View sig .tc .vmem S4096x128 .bf16} {f : v.ty.Contents (Elt Ideal)} {L : List (View.Piece (Elt Ideal) S4096x128 .bf16)}
    (h : Keeps v f L) {a : Memref sig .tc .vmem S4096x35 .f32} (ha : a.IsWhole) (x : Vec Ideal S4096x35 .f32)
    (w1 w : Vec Ideal S128x768 .bf16) (hw : ∀ k j, w (ix2 k j) = w1 (ix2 k j)) (w2 : Vec Ideal S128x384 .bf16) (p : Vec Ideal S512x384 .f32) {lo : ℕ}
    (inb : ∀ a : Fin 2, (![lo, 0] : Fin 2 → ℕ) a + S512x32.size a ≤ S4096x128.size a)
    (inb1 : ∀ a : Fin 2, (![lo, 0] : Fin 2 → ℕ) a + S512x128.size a ≤ S4096x128.size a)
    (inb2 : ∀ a : Fin 2, (![lo, 0] : Fin 2 → ℕ) a + S512x35.size a ≤ S4096x35.size a)
    (inb3 : ∀ a : Fin 2, (![lo, 0] : Fin 2 → ℕ) a + S512x768.size a ≤ S4096x1152.size a) (z : S512x768.Idx) :
    k0_pay27 (F := Ideal) w (v.readAt (Elt Ideal) (Rect.unit (s := S4096x128) ![lo, 0] S512x128.size inb1).toLoadRect (v.writes (Elt Ideal) f
      (⟨Rect.unit (s := S4096x128) ![lo, 0] S512x32.size inb, k0_pay26 (F := Ideal) (a.view.readAt (Elt Ideal) (Rect.unit (s := S4096x35) ![lo, 0] S512x35.size inb2).toLoadRect (ha.unread x))⟩ :: L))) z
      = block x w1 w2 p ((Rect.unit (s := S4096x1152) ![lo, 0] S512x768.size inb3).emb z) := by
  obtain ⟨q, j, rfl⟩ : ∃ (q : Fin 512) (j : Fin 768), z = ix2 q j := ⟨z 0, z 1, eq_ix2 z⟩
  refine (left_apply _ _ q j).trans ?_
  refine Eq.trans ?_ (congrArg (block x w1 w2 p) (emb_ix2 inb3 q j)).symm
  have hj : (0 + j.val) < 768 := by omega
  refine Eq.trans ?_ (block_left x w1 w2 p _ _ hj).symm
  unfold leftBlock
  refine Finset.sum_congr rfl fun k _ => ?_
  rw [chunk_features h ha x inb inb1 inb2 q k, hw]
  congr 3; apply Fin.ext; exact (Nat.zero_add _).symm

/-- A chunk's right piece is the block where it lies. -/
theorem right_piece {a : Memref sig .tc .vmem S4096x35 .f32} (ha : a.IsWhole) (x : Vec Ideal S4096x35 .f32)
    (w1 : Vec Ideal S128x768 .bf16) (w2 w : Vec Ideal S128x384 .bf16) (hw : ∀ k j, w (ix2 k j) = w2 (ix2 k j))
    (p u : Vec Ideal S512x384 .f32) (hu : ∀ q j, u (ix2 q j) = p (ix2 q j)) {lo : ℕ} (hlo : lo % 512 = 0)
    (inb2 : ∀ a : Fin 2, (![lo, 0] : Fin 2 → ℕ) a + S512x35.size a ≤ S4096x35.size a)
    (inb3 : ∀ a : Fin 2, (![lo, 768] : Fin 2 → ℕ) a + S512x384.size a ≤ S4096x1152.size a) (z : S512x384.Idx) :
    k0_pay28 (F := Ideal) u w (a.view.readAt (Elt Ideal) (Rect.unit (s := S4096x35) ![lo, 0] S512x35.size inb2).toLoadRect (ha.unread x)) z
      = block x w1 w2 p ((Rect.unit (s := S4096x1152) ![lo, 768] S512x384.size inb3).emb z) := by
  obtain ⟨q, j, rfl⟩ : ∃ (q : Fin 512) (j : Fin 384), z = ix2 q j := ⟨z 0, z 1, eq_ix2 z⟩
  refine (right_apply _ _ _ q j).trans ?_
  refine Eq.trans ?_ (congrArg (block x w1 w2 p) (emb_ix2 inb3 q j)).symm
  have hj : ¬ (768 + j.val) < 768 := by omega
  refine Eq.trans ?_ (block_right x w1 w2 p _ _ hj).symm
  unfold rightBlock
  rw [hu]
  have e : ∀ t : Fin 35, a.view.readAt (Elt Ideal) (Rect.unit (s := S4096x35) ![lo, 0] S512x35.size inb2).toLoadRect (ha.unread x) (ix2 q t)
      = x (ix2 ⟨lo + q.val, Nat.lt_of_lt_of_le (Nat.add_lt_add_left q.isLt lo) (inb2 0)⟩ t) := fun t => by
    refine (load_whole ha x inb2 q t).trans ?_
    congr 2; apply Fin.ext; exact Nat.zero_add _
  rw [e 33, e 32, e 34]
  have ej : j = ⟨768 + j.val - 768, by omega⟩ := Fin.ext (by show j.val = 768 + j.val - 768; omega)
  have er : q = ⟨(lo + q.val) % 512, by omega⟩ := Fin.ext (by show q.val = (lo + q.val) % 512; omega)
  refine congrArg₂ (· + ·) (Finset.sum_congr rfl fun k _ => ?_) ?_
  · rw [hw]; exact congrArg (fun t => _ * w2 (ix2 k t)) ej
  · exact congrArg₂ (fun s t => p (ix2 s t)) er ej

end Cert.KernelIdeal.Fused

end
-- ==== Proof.Ideal.Tables.lean ====
/-
  The idealized kernel's scratch buffers as the first point assembles them: the joined weights, the joined tables and the
  positions repeated.
-/
module

public import proofs.«01_k».proof.Proof.Ideal.Blocks
public import Idealize.ShloMosaic.Lib.Pointwise
public import Idealize.ShloMosaic.Lib.WritesUnit
public import Idealize.ShloMosaic.Lib.WholeRead

@[expose] public section

set_option maxRecDepth 16384

noncomputable section

namespace Cert.KernelIdeal.Fused

open Cert.KernelIdeal.Gen
open Idealize.ShloMosaic Idealize.ShloMosaic.Tactic

/-! ## What the buffers hold -/

/-- The joined weights: the projection's rows, the positions' first 768 columns, the bias, zeros. -/
def joined1 (x1 : Vec Ideal S32x768 .f32) (x2 : Vec Ideal S1x768 .f32) (x6 : Vec Ideal S64x1152 .f32) (k : Fin 128) (j : Fin 768) : EReal :=
  if h : k.val < 32 then x1 (ix2 ⟨k.val, h⟩ j)
  else if h : k.val < 96 then x6 (ix2 ⟨k.val - 32, by omega⟩ ⟨j.val, by omega⟩)
  else if k.val = 96 then x2 (ix2 0 j) else 0

/-- The joined tables: the first table at row 0, column 0, the second at row 15, column 128, the third at row 79, column
    256, zeros elsewhere. -/
def joined2 (x3 : Vec Ideal S15x128 .f32) (x4 : Vec Ideal S64x128 .f32) (x5 : Vec Ideal S20x128 .f32) (k : Fin 128) (j : Fin 384) : EReal :=
  if h : k.val < 15 ∧ j.val < 128 then x3 (ix2 ⟨k.val, h.1⟩ ⟨j.val, h.2⟩)
  else if h : (15 ≤ k.val ∧ k.val < 79) ∧ 128 ≤ j.val ∧ j.val < 256 then x4 (ix2 ⟨k.val - 15, by omega⟩ ⟨j.val - 128, by omega⟩)
  else if h : (79 ≤ k.val ∧ k.val < 99) ∧ 256 ≤ j.val then x5 (ix2 ⟨k.val - 79, by omega⟩ ⟨j.val - 256, by omega⟩)
  else 0

/-- The positions' last 384 columns, repeated every 64 rows. -/
def repeated (x6 : Vec Ideal S64x1152 .f32) (q : Fin 512) (j : Fin 384) : EReal :=
  x6 (ix2 ⟨q.val % 64, by omega⟩ ⟨768 + j.val, by omega⟩)

/-! ## The stores read back -/

section Weights

variable (c : Dev nD) (arg2 : Memref sig .tc .vmem S32x768 .f32) (harg2 : arg2.IsWhole) (arg3 : Memref sig .tc .vmem S1x768 .f32) (harg3 : arg3.IsWhole)
  (arg7 : Memref sig .tc .vmem S64x1152 .f32) (harg7 : arg7.IsWhole) (arg10 : Memref sig .tc .vmem S128x768 .bf16)
  (x1 : Vec Ideal S32x768 .f32) (x2 : Vec Ideal S1x768 .f32) (x6 : Vec Ideal S64x1152 .f32)

/-- The weights before the bias is stored: its row is zero. -/
theorem weights_before (v : View sig .tc .vmem S128x768 .bf16) (f : v.ty.Contents (Elt Ideal)) (k : Fin 128) (j : Fin 768) :
    v.read (Elt Ideal) (v.writes (Elt Ideal) f (runFirst.sl.S1_3 c arg2 harg2 arg7 harg7 x1 x6)) (ix2 k j)
      = if h : k.val < 32 then x1 (ix2 ⟨k.val, h⟩ j)
        else if h : k.val < 96 then x6 (ix2 ⟨k.val - 32, by omega⟩ ⟨j.val, by omega⟩) else 0 := by
  unfold runFirst.sl.S1_3
  by_cases h1 : k.val < 32
  · rw [dif_pos h1]
    rw [View.read_writes_cons_unit_of_not_mem v f _ _ _ (ix2 k j) rfl (0 : Fin 2) (Or.inl h1)]
    refine Eq.trans (hit_ix2 (n0 := 32) (n1 := 768) v f _ _ _ k j ⟨k.val, h1⟩ j (Nat.zero_add _).symm (Nat.zero_add _).symm) ?_
    refine (weight_apply _ ⟨k.val, h1⟩ j).trans ((load_whole harg2 x1 _ ⟨k.val, h1⟩ j).trans ?_)
    congr 2 <;> exact Fin.ext (Nat.zero_add _)
  · rw [dif_neg h1]
    by_cases h2 : k.val < 96
    · rw [dif_pos h2]
      refine Eq.trans (hit_ix2 (n0 := 64) (n1 := 768) v f _ _ _ k j ⟨k.val - 32, by omega⟩ j (by show k.val = 32 + (k.val - 32); omega) (Nat.zero_add _).symm) ?_
      refine (place_apply _ ⟨k.val - 32, by omega⟩ j).trans ((load_whole harg7 x6 _ ⟨k.val - 32, by omega⟩ j).trans ?_)
      congr 2 <;> exact Fin.ext (Nat.zero_add _)
    · rw [dif_neg h2]
      rw [View.read_writes_cons_unit_of_not_mem v f _ _ _ (ix2 k j) rfl (0 : Fin 2) (Or.inr (by show 32 + 64 ≤ k.val; omega)),
        View.read_writes_cons_unit_of_not_mem v f _ _ _ (ix2 k j) rfl (0 : Fin 2) (Or.inr (by show 0 + 32 ≤ k.val; omega))]
      refine Eq.trans (hit_ix2 (n0 := 128) (n1 := 768) v f _ _ _ k j k j (Nat.zero_add _).symm (Nat.zero_add _).symm) ?_
      exact zero1_apply k j

/-- The weights the first point leaves are the joined ones. -/
theorem weights_read (v : View sig .tc .vmem S128x768 .bf16) (f : v.ty.Contents (Elt Ideal)) (k : Fin 128) (j : Fin 768) :
    v.read (Elt Ideal) (v.writes (Elt Ideal) f (runFirst.sl.S1_4 c arg2 harg2 arg3 harg3 arg7 harg7 arg10 x1 x2 x6)) (ix2 k j)
      = joined1 x1 x2 x6 k j := by
  unfold runFirst.sl.S1_4 joined1
  by_cases h : k.val < 96 ∨ 98 ≤ k.val
  · rw [View.read_writes_cons_unit_of_not_mem v f _ _ _ (ix2 k j) rfl (0 : Fin 2) (by
      show k.val < 96 ∨ 96 + 2 ≤ k.val
      omega), weights_before]
    by_cases h1 : k.val < 32
    · rw [dif_pos h1, dif_pos h1]
    · rw [dif_neg h1, dif_neg h1]
      by_cases h2 : k.val < 96
      · rw [dif_pos h2, dif_pos h2]
      · rw [dif_neg h2, dif_neg h2, if_neg (by omega)]
  · refine Eq.trans (hit_ix2 (n0 := 2) (n1 := 768) v f _ _ _ k j ⟨k.val - 96, by omega⟩ j (by show k.val = 96 + (k.val - 96); omega) (Nat.zero_add _).symm) ?_
    rw [dif_neg (by omega), dif_neg (by omega)]
    show updateSlice _ _ _ _ _ = _
    rw [updateSlice_apply]
    by_cases h2 : k.val = 96
    · rw [if_pos h2, dif_pos (Fin.forall_fin_two.mpr ⟨by show 0 ≤ k.val - 96 ∧ k.val - 96 < 0 + 1; omega, by show 0 ≤ j.val ∧ j.val < 0 + 768; omega⟩)]
      refine (congrArg _ (eq_ix2 _)).trans ((bias_apply _ _ _).trans ((load_whole harg3 x2 _ _ _).trans ?_))
      congr 2
      · exact Subsingleton.elim _ _
      · apply Fin.ext; show 0 + (j.val - 0) = j.val; omega
    · rw [if_neg h2, dif_neg (fun hall => by have := hall 0; have : 0 ≤ k.val - 96 ∧ k.val - 96 < 0 + 1 := this; omega)]
      unfold runFirst.sl.old View.readCov
      refine (load_ix2 _ _ _ _ _).trans ((weights_before c arg2 harg2 arg7 harg7 x1 x6 _ _ _ _).trans ?_)
      rw [dif_neg (by show ¬ 96 + (k.val - 96) < 32; omega), dif_neg (by show ¬ 96 + (k.val - 96) < 96; omega)]

end Weights

section Tables

variable (c : Dev nD) (arg4 : Memref sig .tc .vmem S15x128 .f32) (harg4 : arg4.IsWhole) (arg5 : Memref sig .tc .vmem S64x128 .f32) (harg5 : arg5.IsWhole)
  (arg6 : Memref sig .tc .vmem S20x128 .f32) (harg6 : arg6.IsWhole) (arg11 : Memref sig .tc .vmem S128x384 .bf16)
  (x3 : Vec Ideal S15x128 .f32) (x4 : Vec Ideal S64x128 .f32) (x5 : Vec Ideal S20x128 .f32)

/-- The tables' buffer is zero at first. -/
theorem tables_zero (v : View sig .tc .vmem S128x384 .bf16) (f : v.ty.Contents (Elt Ideal)) (k : Fin 128) (j : Fin 384) :
    v.read (Elt Ideal) (v.writes (Elt Ideal) f (runFirst.sl.S2_1 (F := Ideal))) (ix2 k j) = 0 := by
  unfold runFirst.sl.S2_1
  refine Eq.trans (hit_ix2 (n0 := 128) (n1 := 384) v f _ _ _ k j k j (Nat.zero_add _).symm (Nat.zero_add _).symm) ?_
  exact zero2_apply k j

/-- The first table stored. -/
theorem tables_one (v : View sig .tc .vmem S128x384 .bf16) (f : v.ty.Contents (Elt Ideal)) (k : Fin 128) (j : Fin 384) :
    v.read (Elt Ideal) (v.writes (Elt Ideal) f (runFirst.sl.S2_2 c arg4 harg4 arg11 x3)) (ix2 k j)
      = if h : k.val < 15 ∧ j.val < 128 then x3 (ix2 ⟨k.val, h.1⟩ ⟨j.val, h.2⟩) else 0 := by
  unfold runFirst.sl.S2_2
  by_cases hr : k.val < 16
  swap
  · rw [View.read_writes_cons_unit_of_not_mem v f _ _ _ (ix2 k j) rfl (0 : Fin 2) (Or.inr (by show 0 + 16 ≤ k.val; omega)), tables_zero,
      dif_neg (by omega)]
  by_cases hc : j.val < 128
  swap
  · rw [View.read_writes_cons_unit_of_not_mem v f _ _ _ (ix2 k j) rfl (1 : Fin 2) (Or.inr (by show 0 + 128 ≤ j.val; omega)), tables_zero,
      dif_neg (by omega)]
  refine Eq.trans (hit_ix2 (n0 := 16) (n1 := 128) v f _ _ _ k j ⟨k.val, hr⟩ ⟨j.val, hc⟩ (Nat.zero_add _).symm (Nat.zero_add _).symm) ?_
  show updateSlice _ _ _ _ _ = _
  rw [updateSlice_apply]
  by_cases h : k.val < 15
  · rw [dif_pos (⟨h, hc⟩ : k.val < 15 ∧ j.val < 128), dif_pos (Fin.forall_fin_two.mpr ⟨by show 0 ≤ k.val ∧ k.val < 0 + 15; omega, by show 0 ≤ j.val ∧ j.val < 0 + 128; omega⟩)]
    refine (congrArg _ (eq_ix2 _)).trans ((dd_apply _ _ _).trans ((load_whole harg4 x3 _ _ _).trans ?_))
    congr 2 <;> apply Fin.ext
    · show 0 + (k.val - 0) = k.val; omega
    · show 0 + (j.val - 0) = j.val; omega
  · rw [dif_neg (by omega : ¬ (k.val < 15 ∧ j.val < 128)), dif_neg (fun hall => by have := hall 0; have : 0 ≤ k.val ∧ k.val < 0 + 15 := this; omega)]
    unfold runFirst.sl.old_1 View.readCov
    exact (load_ix2 _ _ _ _ _).trans (tables_zero _ _ _ _)

/-- The second table stored. -/
theorem tables_two (v : View sig .tc .vmem S128x384 .bf16) (f : v.ty.Contents (Elt Ideal)) (k : Fin 128) (j : Fin 384) :
    v.read (Elt Ideal) (v.writes (Elt Ideal) f (runFirst.sl.S2_3 c arg4 harg4 arg5 harg5 arg11 x3 x4)) (ix2 k j)
      = if h : k.val < 15 ∧ j.val < 128 then x3 (ix2 ⟨k.val, h.1⟩ ⟨j.val, h.2⟩)
        else if h : (15 ≤ k.val ∧ k.val < 79) ∧ 128 ≤ j.val ∧ j.val < 256 then x4 (ix2 ⟨k.val - 15, by omega⟩ ⟨j.val - 128, by omega⟩)
        else 0 := by
  unfold runFirst.sl.S2_3
  by_cases hr : 14 ≤ k.val ∧ k.val < 80
  swap
  · rw [View.read_writes_cons_unit_of_not_mem v f _ _ _ (ix2 k j) rfl (0 : Fin 2) (by show k.val < 14 ∨ 14 + 66 ≤ k.val; omega), tables_one,
      dif_neg (by omega : ¬ ((15 ≤ k.val ∧ k.val < 79) ∧ 128 ≤ j.val ∧ j.val < 256))]
  by_cases hc : 128 ≤ j.val ∧ j.val < 256
  swap
  · rw [View.read_writes_cons_unit_of_not_mem v f _ _ _ (ix2 k j) rfl (1 : Fin 2) (by show j.val < 128 ∨ 128 + 128 ≤ j.val; omega), tables_one,
      dif_neg (by omega : ¬ ((15 ≤ k.val ∧ k.val < 79) ∧ 128 ≤ j.val ∧ j.val < 256))]
  refine Eq.trans (hit_ix2 (n0 := 66) (n1 := 128) v f _ _ _ k j ⟨k.val - 14, by omega⟩ ⟨j.val - 128, by omega⟩ (by show k.val = 14 + (k.val - 14); omega) (by show j.val = 128 + (j.val - 128); omega)) ?_
  rw [dif_neg (by omega : ¬ (k.val < 15 ∧ j.val < 128))]
  show updateSlice _ _ _ _ _ = _
  rw [updateSlice_apply]
  by_cases h : 15 ≤ k.val ∧ k.val < 79
  · rw [dif_pos (⟨h, hc⟩ : (15 ≤ k.val ∧ k.val < 79) ∧ 128 ≤ j.val ∧ j.val < 256), dif_pos (Fin.forall_fin_two.mpr ⟨by show 1 ≤ k.val - 14 ∧ k.val - 14 < 1 + 64; omega, by show 0 ≤ j.val - 128 ∧ j.val - 128 < 0 + 128; omega⟩)]
    refine (congrArg _ (eq_ix2 _)).trans ((plate_apply _ _ _).trans ((load_whole harg5 x4 _ _ _).trans ?_))
    congr 2 <;> apply Fin.ext
    · show 0 + (k.val - 14 - 1) = k.val - 15; omega
    · show 0 + (j.val - 128 - 0) = j.val - 128; omega
  · rw [dif_neg (by omega : ¬ ((15 ≤ k.val ∧ k.val < 79) ∧ 128 ≤ j.val ∧ j.val < 256)), dif_neg (fun hall => by have := hall 0; have : 1 ≤ k.val - 14 ∧ k.val - 14 < 1 + 64 := this; omega)]
    unfold runFirst.sl.old_2 View.readCov
    refine (load_ix2 _ _ _ _ _).trans ((tables_one c arg4 harg4 arg11 x3 _ _ _ _).trans ?_)
    exact dif_neg (by show ¬ (14 + (k.val - 14) < 15 ∧ 128 + (j.val - 128) < 128); omega)

/-- The tables the first point leaves are the joined ones. -/
theorem tables_read (v : View sig .tc .vmem S128x384 .bf16) (f : v.ty.Contents (Elt Ideal)) (k : Fin 128) (j : Fin 384) :
    v.read (Elt Ideal) (v.writes (Elt Ideal) f (runFirst.sl.S2_4 c arg4 harg4 arg5 harg5 arg6 harg6 arg11 x3 x4 x5)) (ix2 k j)
      = joined2 x3 x4 x5 k j := by
  unfold runFirst.sl.S2_4 joined2
  by_cases hr : 78 ≤ k.val ∧ k.val < 100
  swap
  · rw [View.read_writes_cons_unit_of_not_mem v f _ _ _ (ix2 k j) rfl (0 : Fin 2) (by show k.val < 78 ∨ 78 + 22 ≤ k.val; omega), tables_two,
      dif_neg (by omega : ¬ ((79 ≤ k.val ∧ k.val < 99) ∧ 256 ≤ j.val))]
  by_cases hc : 256 ≤ j.val
  swap
  · rw [View.read_writes_cons_unit_of_not_mem v f _ _ _ (ix2 k j) rfl (1 : Fin 2) (Or.inl (by show j.val < 256; omega)), tables_two,
      dif_neg (by omega : ¬ ((79 ≤ k.val ∧ k.val < 99) ∧ 256 ≤ j.val))]
  refine Eq.trans (hit_ix2 (n0 := 22) (n1 := 128) v f _ _ _ k j ⟨k.val - 78, by omega⟩ ⟨j.val - 256, by omega⟩ (by show k.val = 78 + (k.val - 78); omega) (by show j.val = 256 + (j.val - 256); omega)) ?_
  rw [dif_neg (by omega : ¬ (k.val < 15 ∧ j.val < 128)), dif_neg (by omega : ¬ ((15 ≤ k.val ∧ k.val < 79) ∧ 128 ≤ j.val ∧ j.val < 256))]
  show updateSlice _ _ _ _ _ = _
  rw [updateSlice_apply]
  by_cases h : 79 ≤ k.val ∧ k.val < 99
  · rw [dif_pos (⟨h, hc⟩ : (79 ≤ k.val ∧ k.val < 99) ∧ 256 ≤ j.val), dif_pos (Fin.forall_fin_two.mpr ⟨by show 1 ≤ k.val - 78 ∧ k.val - 78 < 1 + 20; omega, by show 0 ≤ j.val - 256 ∧ j.val - 256 < 0 + 128; omega⟩)]
    refine (congrArg _ (eq_ix2 _)).trans ((mag_apply _ _ _).trans ((load_whole harg6 x5 _ _ _).trans ?_))
    congr 2 <;> apply Fin.ext
    · show 0 + (k.val - 78 - 1) = k.val - 79; omega
    · show 0 + (j.val - 256 - 0) = j.val - 256; omega
  · rw [dif_neg (by omega : ¬ ((79 ≤ k.val ∧ k.val < 99) ∧ 256 ≤ j.val)), dif_neg (fun hall => by have := hall 0; have : 1 ≤ k.val - 78 ∧ k.val - 78 < 1 + 20 := this; omega)]
    unfold runFirst.sl.old_3 View.readCov
    refine (load_ix2 _ _ _ _ _).trans ((tables_two c arg4 harg4 arg5 harg5 arg11 x3 x4 _ _ _ _).trans ?_)
    exact (dif_neg (by show ¬ (78 + (k.val - 78) < 15 ∧ 256 + (j.val - 256) < 128); omega)).trans
      (dif_neg (by show ¬ ((15 ≤ 78 + (k.val - 78) ∧ 78 + (k.val - 78) < 79) ∧ 128 ≤ 256 + (j.val - 256) ∧ 256 + (j.val - 256) < 256); omega))

end Tables

section Positions

variable (c : Dev nD) (arg7 : Memref sig .tc .vmem S64x1152 .f32) (harg7 : arg7.IsWhole) (x6 : Vec Ideal S64x1152 .f32)

/-- One copy of the positions is `repeated` where it lies. -/
theorem place2_piece {lo : ℕ} (hlo : lo % 64 = 0)
    (inb : ∀ a : Fin 2, (![0, 768] : Fin 2 → ℕ) a + S64x384.size a ≤ S64x1152.size a)
    (inb1 : ∀ a : Fin 2, (![lo, 0] : Fin 2 → ℕ) a + S64x384.size a ≤ S512x384.size a) (z : S64x384.Idx) :
    k0_pay12 (F := Ideal) (arg7.view.readAt (Elt Ideal) (Rect.unit (s := S64x1152) ![0, 768] S64x384.size inb).toLoadRect (harg7.unread x6)) z
      = (fun y : S512x384.Idx => repeated x6 (y 0) (y 1)) ((Rect.unit (s := S512x384) ![lo, 0] S64x384.size inb1).emb z) := by
  obtain ⟨q, j, rfl⟩ : ∃ (q : Fin 64) (j : Fin 384), z = ix2 q j := ⟨z 0, z 1, eq_ix2 z⟩
  refine (place2_apply _ q j).trans ((load_whole harg7 x6 inb q j).trans ?_)
  refine Eq.trans ?_ (congrArg (fun y : S512x384.Idx => repeated x6 (y 0) (y 1)) (emb_ix2 inb1 q j)).symm
  show _ = x6 (ix2 _ _)
  congr 2 <;> apply Fin.ext
  · show 0 + q.val = (lo + q.val) % 64; omega
  · show 768 + j.val = 768 + (0 + j.val); omega

/-- The positions the first point leaves are the repeated ones. -/
theorem positions_read (v : View sig .tc .vmem S512x384 .f32) (f : v.ty.Contents (Elt Ideal)) (q : Fin 512) (j : Fin 384) :
    v.read (Elt Ideal) (v.writes (Elt Ideal) f (runFirst.sl.S3_8 c arg7 harg7 x6)) (ix2 q j) = repeated x6 q j := by
  refine View.read_writes_apply_of_pieces v f (fun y : S512x384.Idx => repeated x6 (y 0) (y 1)) (runFirst.sl.S3_8 c arg7 harg7 x6) ?_ (ix2 q j)
    (View.cover_of_tiledL (runFirst.sl.S3_8 (F := Ideal) c arg7 harg7 x6) S64x384.size (by sl_kernel_rfl) _)
  unfold runFirst.sl.S3_8
  refine List.forall_mem_cons.mpr ⟨fun z => place2_piece arg7 harg7 x6 (lo := 448) (by norm_num) inb_S64x1152_S64x384_0_768 inb_S512x384_S64x384_448_0 z, ?_⟩
  refine List.forall_mem_cons.mpr ⟨fun z => place2_piece arg7 harg7 x6 (lo := 384) (by norm_num) inb_S64x1152_S64x384_0_768 inb_S512x384_S64x384_384_0 z, ?_⟩
  refine List.forall_mem_cons.mpr ⟨fun z => place2_piece arg7 harg7 x6 (lo := 320) (by norm_num) inb_S64x1152_S64x384_0_768 inb_S512x384_S64x384_320_0 z, ?_⟩
  refine List.forall_mem_cons.mpr ⟨fun z => place2_piece arg7 harg7 x6 (lo := 256) (by norm_num) inb_S64x1152_S64x384_0_768 inb_S512x384_S64x384_256_0 z, ?_⟩
  refine List.forall_mem_cons.mpr ⟨fun z => place2_piece arg7 harg7 x6 (lo := 192) (by norm_num) inb_S64x1152_S64x384_0_768 inb_S512x384_S64x384_192_0 z, ?_⟩
  refine List.forall_mem_cons.mpr ⟨fun z => place2_piece arg7 harg7 x6 (lo := 128) (by norm_num) inb_S64x1152_S64x384_0_768 inb_S512x384_S64x384_128_0 z, ?_⟩
  refine List.forall_mem_cons.mpr ⟨fun z => place2_piece arg7 harg7 x6 (lo := 64) (by norm_num) inb_S64x1152_S64x384_0_768 inb_S512x384_S64x384_64_0 z, ?_⟩
  refine List.forall_mem_cons.mpr ⟨fun z => place2_piece arg7 harg7 x6 (lo := 0) (by norm_num) inb_S64x1152_S64x384_0_768 inb_S512x384_S64x384_0_0 z, ?_⟩
  exact fun p hp => absurd hp List.not_mem_nil

end Positions

end Cert.KernelIdeal.Fused

end
-- ==== Proof.Ideal.Outcome.lean ====
/-
  What each point of the idealized kernel leaves: the scratch buffers keep the joined weights, the joined tables, the repeated
  positions and the features' fixed part; the result's block is `block` of them.
-/
module

public import proofs.«01_k».proof.Proof.Ideal.Tables
public import Idealize.ShloMosaic.Lib.Pointwise
public import Idealize.ShloMosaic.Lib.WritesUnit
public import Idealize.ShloMosaic.Lib.WholeRead

@[expose] public section

set_option maxRecDepth 16384

noncomputable section

namespace Cert.KernelIdeal.Fused

open Cert.KernelIdeal.Gen
open Idealize.ShloMosaic Idealize.ShloMosaic.Tactic

/-! ## The fixed features stay -/

/-- The whole store of the fixed features leaves them. -/
theorem whole_keeps (v : View sig .tc .vmem S4096x128 .bf16) (f : v.ty.Contents (Elt Ideal)) :
    Keeps v f [⟨Rect.unit ![0, 0] S4096x128.size inb_S4096x128_S4096x128_0_0, k0_pay11 (F := Ideal)⟩] := fun r k _ =>
  (hit_ix2 (n0 := 4096) (n1 := 128) v f _ _ _ r k r k (Nat.zero_add _).symm (Nat.zero_add _).symm).trans (tail_apply r k)

section Keep

variable (c : Dev nD) (arg1 : Memref sig .tc .vmem S4096x35 .f32) (harg1 : arg1.IsWhole) (x0 : Vec Ideal S4096x35 .f32)

/-! A later point's stores of features, one by one. -/
theorem later_keeps1 {v : View sig .tc .vmem S4096x128 .bf16} {f : v.ty.Contents (Elt Ideal)} (h : Keeps v f []) :
    Keeps v f (runLater.sl.S0_1 (F := Ideal) c arg1 harg1 x0) := Keeps.cons h inb_S4096x128_S512x32_0_0 _
theorem later_keeps2 {v : View sig .tc .vmem S4096x128 .bf16} {f : v.ty.Contents (Elt Ideal)} (h : Keeps v f []) :
    Keeps v f (runLater.sl.S0_2 (F := Ideal) c arg1 harg1 x0) := Keeps.cons (later_keeps1 c arg1 harg1 x0 h) inb_S4096x128_S512x32_512_0 _
theorem later_keeps3 {v : View sig .tc .vmem S4096x128 .bf16} {f : v.ty.Contents (Elt Ideal)} (h : Keeps v f []) :
    Keeps v f (runLater.sl.S0_3 (F := Ideal) c arg1 harg1 x0) := Keeps.cons (later_keeps2 c arg1 harg1 x0 h) inb_S4096x128_S512x32_1024_0 _
theorem later_keeps4 {v : View sig .tc .vmem S4096x128 .bf16} {f : v.ty.Contents (Elt Ideal)} (h : Keeps v f []) :
    Keeps v f (runLater.sl.S0_4 (F := Ideal) c arg1 harg1 x0) := Keeps.cons (later_keeps3 c arg1 harg1 x0 h) inb_S4096x128_S512x32_1536_0 _
theorem later_keeps5 {v : View sig .tc .vmem S4096x128 .bf16} {f : v.ty.Contents (Elt Ideal)} (h : Keeps v f []) :
    Keeps v f (runLater.sl.S0_5 (F := Ideal) c arg1 harg1 x0) := Keeps.cons (later_keeps4 c arg1 harg1 x0 h) inb_S4096x128_S512x32_2048_0 _
theorem later_keeps6 {v : View sig .tc .vmem S4096x128 .bf16} {f : v.ty.Contents (Elt Ideal)} (h : Keeps v f []) :
    Keeps v f (runLater.sl.S0_6 (F := Ideal) c arg1 harg1 x0) := Keeps.cons (later_keeps5 c arg1 harg1 x0 h) inb_S4096x128_S512x32_2560_0 _
theorem later_keeps7 {v : View sig .tc .vmem S4096x128 .bf16} {f : v.ty.Contents (Elt Ideal)} (h : Keeps v f []) :
    Keeps v f (runLater.sl.S0_7 (F := Ideal) c arg1 harg1 x0) := Keeps.cons (later_keeps6 c arg1 harg1 x0 h) inb_S4096x128_S512x32_3072_0 _
theorem later_keeps8 {v : View sig .tc .vmem S4096x128 .bf16} {f : v.ty.Contents (Elt Ideal)} (h : Keeps v f []) :
    Keeps v f (runLater.sl.S0_8 (F := Ideal) c arg1 harg1 x0) := Keeps.cons (later_keeps7 c arg1 harg1 x0 h) inb_S4096x128_S512x32_3584_0 _

/-! The first point's. -/
theorem first_keeps2 (v : View sig .tc .vmem S4096x128 .bf16) (f : v.ty.Contents (Elt Ideal)) :
    Keeps v f (runFirst.sl.S0_2 (F := Ideal) c arg1 harg1 x0) := Keeps.cons (whole_keeps v f) inb_S4096x128_S512x32_0_0 _
theorem first_keeps3 (v : View sig .tc .vmem S4096x128 .bf16) (f : v.ty.Contents (Elt Ideal)) :
    Keeps v f (runFirst.sl.S0_3 (F := Ideal) c arg1 harg1 x0) := Keeps.cons (first_keeps2 c arg1 harg1 x0 v f) inb_S4096x128_S512x32_512_0 _
theorem first_keeps4 (v : View sig .tc .vmem S4096x128 .bf16) (f : v.ty.Contents (Elt Ideal)) :
    Keeps v f (runFirst.sl.S0_4 (F := Ideal) c arg1 harg1 x0) := Keeps.cons (first_keeps3 c arg1 harg1 x0 v f) inb_S4096x128_S512x32_1024_0 _
theorem first_keeps5 (v : View sig .tc .vmem S4096x128 .bf16) (f : v.ty.Contents (Elt Ideal)) :
    Keeps v f (runFirst.sl.S0_5 (F := Ideal) c arg1 harg1 x0) := Keeps.cons (first_keeps4 c arg1 harg1 x0 v f) inb_S4096x128_S512x32_1536_0 _
theorem first_keeps6 (v : View sig .tc .vmem S4096x128 .bf16) (f : v.ty.Contents (Elt Ideal)) :
    Keeps v f (runFirst.sl.S0_6 (F := Ideal) c arg1 harg1 x0) := Keeps.cons (first_keeps5 c arg1 harg1 x0 v f) inb_S4096x128_S512x32_2048_0 _
theorem first_keeps7 (v : View sig .tc .vmem S4096x128 .bf16) (f : v.ty.Contents (Elt Ideal)) :
    Keeps v f (runFirst.sl.S0_7 (F := Ideal) c arg1 harg1 x0) := Keeps.cons (first_keeps6 c arg1 harg1 x0 v f) inb_S4096x128_S512x32_2560_0 _
theorem first_keeps8 (v : View sig .tc .vmem S4096x128 .bf16) (f : v.ty.Contents (Elt Ideal)) :
    Keeps v f (runFirst.sl.S0_8 (F := Ideal) c arg1 harg1 x0) := Keeps.cons (first_keeps7 c arg1 harg1 x0 v f) inb_S4096x128_S512x32_3072_0 _
theorem first_keeps9 (v : View sig .tc .vmem S4096x128 .bf16) (f : v.ty.Contents (Elt Ideal)) :
    Keeps v f (runFirst.sl.S0_9 (F := Ideal) c arg1 harg1 x0) := Keeps.cons (first_keeps8 c arg1 harg1 x0 v f) inb_S4096x128_S512x32_3584_0 _

end Keep

/-! ## The blocks -/

/-- The joined weights, tables and positions as arrays. -/
abbrev weightsArr (x1 : Vec Ideal S32x768 .f32) (x2 : Vec Ideal S1x768 .f32) (x6 : Vec Ideal S64x1152 .f32) : Vec Ideal S128x768 .bf16 :=
  fun y => joined1 x1 x2 x6 (y 0) (y 1)
abbrev tablesArr (x3 : Vec Ideal S15x128 .f32) (x4 : Vec Ideal S64x128 .f32) (x5 : Vec Ideal S20x128 .f32) : Vec Ideal S128x384 .bf16 :=
  fun y => joined2 x3 x4 x5 (y 0) (y 1)
abbrev positionsArr (x6 : Vec Ideal S64x1152 .f32) : Vec Ideal S512x384 .f32 := fun y => repeated x6 (y 0) (y 1)

/-- A load of a whole buffer's every element. -/
theorem load_all {d0 d1 : ℕ} {κ : Kind} {sp : Space} {e : EltTy} (v : View sig κ sp ⟨2, ![d0, d1]⟩ e) (f : v.ty.Contents (Elt Ideal))
    (inb : ∀ a : Fin 2, (![0, 0] : Fin 2 → ℕ) a + (![d0, d1] : Fin 2 → ℕ) a ≤ (![d0, d1] : Fin 2 → ℕ) a) (q : Fin d0) (j : Fin d1) :
    v.readAt (Elt Ideal) (Rect.unit (s := ⟨2, ![d0, d1]⟩) ![0, 0] ![d0, d1] inb).toLoadRect f (ix2 q j) = v.read (Elt Ideal) f (ix2 q j) := by
  refine (load_ix2 v f inb q j).trans ?_
  congr 2 <;> exact Fin.ext (Nat.zero_add _)

/-- What a later point leaves in the result's buffer, its scratch buffers at `s0` … `s3` with the fixed features in `s0`. -/
theorem later_block (c : Dev nD) (i : grid0.Coords) (arg1 : Memref sig .tc .vmem S4096x35 .f32) (harg1 : arg1.IsWhole) (arg2 : Memref sig .tc .vmem S32x768 .f32) (harg2 : arg2.IsWhole) (arg3 : Memref sig .tc .vmem S1x768 .f32) (harg3 : arg3.IsWhole) (arg4 : Memref sig .tc .vmem S15x128 .f32) (harg4 : arg4.IsWhole) (arg5 : Memref sig .tc .vmem S64x128 .f32) (harg5 : arg5.IsWhole) (arg6 : Memref sig .tc .vmem S20x128 .f32) (harg6 : arg6.IsWhole) (arg7 : Memref sig .tc .vmem S64x1152 .f32) (harg7 : arg7.IsWhole) (arg8 : Memref sig .tc .vmem S4096x1152 .f32) (harg8 : arg8.IsWhole) (arg9 : Memref sig .tc .vmem S4096x128 .bf16) (harg9 : arg9.IsWhole) (arg10 : Memref sig .tc .vmem S128x768 .bf16) (harg10 : arg10.IsWhole) (arg11 : Memref sig .tc .vmem S128x384 .bf16) (harg11 : arg11.IsWhole) (arg12 : Memref sig .tc .vmem S512x384 .f32) (harg12 : arg12.IsWhole) (hlater : ¬AtFirst i)
    (x0 : Vec Ideal S4096x35 .f32) (x1 : Vec Ideal S32x768 .f32) (x2 : Vec Ideal S1x768 .f32) (x3 : Vec Ideal S15x128 .f32) (x4 : Vec Ideal S64x128 .f32) (x5 : Vec Ideal S20x128 .f32) (x6 : Vec Ideal S64x1152 .f32) (s0 : Vec Ideal S4096x128 .bf16) (s1 : Vec Ideal S128x768 .bf16) (s2 : Vec Ideal S128x384 .bf16) (s3 : Vec Ideal S512x384 .f32) (hs : ∀ (r : Fin 4096) (k : Fin 128), 32 ≤ k.val → s0 (ix2 r k) = tail r k)
    (v : View sig .tc .vmem S4096x1152 .f32) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 hlater x0 x1 x2 x3 x4 x5 x6 s0 s1 s2 s3).1) = block x0 s1 s2 s3 := by
  have h : Keeps arg9.view (harg9.unread s0) [] := fun r k hk => by
    rw [View.writes_nil, harg9.read_unread]; exact hs r k hk
  have h1 : ∀ k j, runLater.sl.r_1 (F := Ideal) c arg10 harg10 s1 (ix2 k j) = s1 (ix2 k j) := fun k j => by
    unfold runLater.sl.r_1; refine (load_all _ _ _ k j).trans ?_; rw [harg10.read_unread]
  have h2 : ∀ k j, runLater.sl.r_2 (F := Ideal) c arg11 harg11 s2 (ix2 k j) = s2 (ix2 k j) := fun k j => by
    unfold runLater.sl.r_2; refine (load_all _ _ _ k j).trans ?_; rw [harg11.read_unread]
  have h3 : ∀ k j, runLater.sl.r (F := Ideal) c arg12 harg12 s3 (ix2 k j) = s3 (ix2 k j) := fun k j => by
    unfold runLater.sl.r; refine (load_all _ _ _ k j).trans ?_; rw [harg12.read_unread]
  funext y
  refine View.read_writes_apply_of_pieces v f (block x0 s1 s2 s3) _ ?_ y (later_covers_result c i arg1 harg1 arg2 harg2 arg3 harg3 arg4 harg4 arg5 harg5 arg6 harg6 arg7 harg7 arg8 harg8 arg9 harg9 arg10 harg10 arg11 harg11 arg12 harg12 hlater x0 x1 x2 x3 x4 x5 x6 s0 s1 s2 s3 y)
  refine List.forall_mem_cons.mpr ⟨fun z => right_piece harg1 x0 s1 s2 _ h2 s3 _ h3 (lo := 3584) (by norm_num)
    inb_S4096x35_S512x35_3584_0 inb_S4096x1152_S512x384_3584_768 z, ?_⟩
  refine List.forall_mem_cons.mpr ⟨fun z => left_piece (later_keeps7 c arg1 harg1 x0 h) harg1 x0 s1 _ h1 s2 s3 (lo := 3584)
    inb_S4096x128_S512x32_3584_0 inb_S4096x128_S512x128_3584_0 inb_S4096x35_S512x35_3584_0 inb_S4096x1152_S512x768_3584_0 z, ?_⟩
  refine List.forall_mem_cons.mpr ⟨fun z => right_piece harg1 x0 s1 s2 _ h2 s3 _ h3 (lo := 3072) (by norm_num)
    inb_S4096x35_S512x35_3072_0 inb_S4096x1152_S512x384_3072_768 z, ?_⟩
  refine List.forall_mem_cons.mpr ⟨fun z => left_piece (later_keeps6 c arg1 harg1 x0 h) harg1 x0 s1 _ h1 s2 s3 (lo := 3072)
    inb_S4096x128_S512x32_3072_0 inb_S4096x128_S512x128_3072_0 inb_S4096x35_S512x35_3072_0 inb_S4096x1152_S512x768_3072_0 z, ?_⟩
  refine List.forall_mem_cons.mpr ⟨fun z => right_piece harg1 x0 s1 s2 _ h2 s3 _ h3 (lo := 2560) (by norm_num)
    inb_S4096x35_S512x35_2560_0 inb_S4096x1152_S512x384_2560_768 z, ?_⟩
  refine List.forall_mem_cons.mpr ⟨fun z => left_piece (later_keeps5 c arg1 harg1 x0 h) harg1 x0 s1 _ h1 s2 s3 (lo := 2560)
    inb_S4096x128_S512x32_2560_0 inb_S4096x128_S512x128_2560_0 inb_S4096x35_S512x35_2560_0 inb_S4096x1152_S512x768_2560_0 z, ?_⟩
  refine List.forall_mem_cons.mpr ⟨fun z => right_piece harg1 x0 s1 s2 _ h2 s3 _ h3 (lo := 2048) (by norm_num)
    inb_S4096x35_S512x35_2048_0 inb_S4096x1152_S512x384_2048_768 z, ?_⟩
  refine List.forall_mem_cons.mpr ⟨fun z => left_piece (later_keeps4 c arg1 harg1 x0 h) harg1 x0 s1 _ h1 s2 s3 (lo := 2048)
    inb_S4096x128_S512x32_2048_0 inb_S4096x128_S512x128_2048_0 inb_S4096x35_S512x35_2048_0 inb_S4096x1152_S512x768_2048_0 z, ?_⟩
  refine List.forall_mem_cons.mpr ⟨fun z => right_piece harg1 x0 s1 s2 _ h2 s3 _ h3 (lo := 1536) (by norm_num)
    inb_S4096x35_S512x35_1536_0 inb_S4096x1152_S512x384_1536_768 z, ?_⟩
  refine List.forall_mem_cons.mpr ⟨fun z => left_piece (later_keeps3 c arg1 harg1 x0 h) harg1 x0 s1 _ h1 s2 s3 (lo := 1536)
    inb_S4096x128_S512x32_1536_0 inb_S4096x128_S512x128_1536_0 inb_S4096x35_S512x35_1536_0 inb_S4096x1152_S512x768_1536_0 z, ?_⟩
  refine List.forall_mem_cons.mpr ⟨fun z => right_piece harg1 x0 s1 s2 _ h2 s3 _ h3 (lo := 1024) (by norm_num)
    inb_S4096x35_S512x35_1024_0 inb_S4096x1152_S512x384_1024_768 z, ?_⟩
  refine List.forall_mem_cons.mpr ⟨fun z => left_piece (later_keeps2 c arg1 harg1 x0 h) harg1 x0 s1 _ h1 s2 s3 (lo := 1024)
    inb_S4096x128_S512x32_1024_0 inb_S4096x128_S512x128_1024_0 inb_S4096x35_S512x35_1024_0 inb_S4096x1152_S512x768_1024_0 z, ?_⟩
  refine List.forall_mem_cons.mpr ⟨fun z => right_piece harg1 x0 s1 s2 _ h2 s3 _ h3 (lo := 512) (by norm_num)
    inb_S4096x35_S512x35_512_0 inb_S4096x1152_S512x384_512_768 z, ?_⟩
  refine List.forall_mem_cons.mpr ⟨fun z => left_piece (later_keeps1 c arg1 harg1 x0 h) harg1 x0 s1 _ h1 s2 s3 (lo := 512)
    inb_S4096x128_S512x32_512_0 inb_S4096x128_S512x128_512_0 inb_S4096x35_S512x35_512_0 inb_S4096x1152_S512x768_512_0 z, ?_⟩
  refine List.forall_mem_cons.mpr ⟨fun z => right_piece harg1 x0 s1 s2 _ h2 s3 _ h3 (lo := 0) (by norm_num)
    inb_S4096x35_S512x35_0_0 inb_S4096x1152_S512x384_0_768 z, ?_⟩
  refine List.forall_mem_cons.mpr ⟨fun z => left_piece h harg1 x0 s1 _ h1 s2 s3 (lo := 0)
    inb_S4096x128_S512x32_0_0 inb_S4096x128_S512x128_0_0 inb_S4096x35_S512x35_0_0 inb_S4096x1152_S512x768_0_0 z, ?_⟩
  exact fun p hp => absurd hp List.not_mem_nil

/-- What the first point leaves in the result's buffer. -/
theorem first_block (c : Dev nD) (i : grid0.Coords) (arg1 : Memref sig .tc .vmem S4096x35 .f32) (harg1 : arg1.IsWhole) (arg2 : Memref sig .tc .vmem S32x768 .f32) (harg2 : arg2.IsWhole) (arg3 : Memref sig .tc .vmem S1x768 .f32) (harg3 : arg3.IsWhole) (arg4 : Memref sig .tc .vmem S15x128 .f32) (harg4 : arg4.IsWhole) (arg5 : Memref sig .tc .vmem S64x128 .f32) (harg5 : arg5.IsWhole) (arg6 : Memref sig .tc .vmem S20x128 .f32) (harg6 : arg6.IsWhole) (arg7 : Memref sig .tc .vmem S64x1152 .f32) (harg7 : arg7.IsWhole) (arg8 : Memref sig .tc .vmem S4096x1152 .f32) (harg8 : arg8.IsWhole) (arg9 : Memref sig .tc .vmem S4096x128 .bf16) (harg9 : arg9.IsWhole) (arg10 : Memref sig .tc .vmem S128x768 .bf16) (harg10 : arg10.IsWhole) (arg11 : Memref sig .tc .vmem S128x384 .bf16) (harg11 : arg11.IsWhole) (arg12 : Memref sig .tc .vmem S512x384 .f32) (harg12 : arg12.IsWhole) (hfirst : AtFirst i)
    (x0 : Vec Ideal S4096x35 .f32) (x1 : Vec Ideal S32x768 .f32) (x2 : Vec Ideal S1x768 .f32) (x3 : Vec Ideal S15x128 .f32) (x4 : Vec Ideal S64x128 .f32) (x5 : Vec Ideal S20x128 .f32) (x6 : Vec Ideal S64x1152 .f32) (v : View sig .tc .vmem S4096x1152 .f32) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 hfirst x0 x1 x2 x3 x4 x5 x6).1)
      = block x0 (weightsArr x1 x2 x6) (tablesArr x3 x4 x5) (positionsArr x6) := by
  have h1 : ∀ k j, runFirst.sl.v4 (F := Ideal) c arg2 harg2 arg3 harg3 arg7 harg7 arg10 x1 x2 x6 (ix2 k j) = weightsArr x1 x2 x6 (ix2 k j) := fun k j => by
    unfold runFirst.sl.v4 View.readCov
    exact (load_all _ _ _ k j).trans (weights_read c arg2 harg2 arg3 harg3 arg7 harg7 arg10 x1 x2 x6 _ _ k j)
  have h2 : ∀ k j, runFirst.sl.v5 (F := Ideal) c arg4 harg4 arg5 harg5 arg6 harg6 arg11 x3 x4 x5 (ix2 k j) = tablesArr x3 x4 x5 (ix2 k j) := fun k j => by
    unfold runFirst.sl.v5 View.readCov
    exact (load_all _ _ _ k j).trans (tables_read c arg4 harg4 arg5 harg5 arg6 harg6 arg11 x3 x4 x5 _ _ k j)
  have h3 : ∀ k j, runFirst.sl.v3 (F := Ideal) c arg7 harg7 arg12 x6 (ix2 k j) = positionsArr x6 (ix2 k j) := fun k j => by
    unfold runFirst.sl.v3 View.readCov
    exact (load_all _ _ _ k j).trans (positions_read c arg7 harg7 x6 _ _ k j)
  funext y
  refine View.read_writes_apply_of_pieces v f (block x0 (weightsArr x1 x2 x6) (tablesArr x3 x4 x5) (positionsArr x6)) _ ?_ y
    (first_covers_result c i arg1 harg1 arg2 harg2 arg3 harg3 arg4 harg4 arg5 harg5 arg6 harg6 arg7 harg7 arg8 harg8 arg9 harg9 arg10 harg10 arg11 harg11 arg12 harg12 hfirst x0 x1 x2 x3 x4 x5 x6 y)
  refine List.forall_mem_cons.mpr ⟨fun z => right_piece harg1 x0 (weightsArr x1 x2 x6) (tablesArr x3 x4 x5) _ h2 (positionsArr x6) _ h3 (lo := 3584) (by norm_num)
    inb_S4096x35_S512x35_3584_0 inb_S4096x1152_S512x384_3584_768 z, ?_⟩
  refine List.forall_mem_cons.mpr ⟨fun z => left_piece (first_keeps8 c arg1 harg1 x0 _ _) harg1 x0 (weightsArr x1 x2 x6) _ h1 (tablesArr x3 x4 x5) (positionsArr x6) (lo := 3584)
    inb_S4096x128_S512x32_3584_0 inb_S4096x128_S512x128_3584_0 inb_S4096x35_S512x35_3584_0 inb_S4096x1152_S512x768_3584_0 z, ?_⟩
  refine List.forall_mem_cons.mpr ⟨fun z => right_piece harg1 x0 (weightsArr x1 x2 x6) (tablesArr x3 x4 x5) _ h2 (positionsArr x6) _ h3 (lo := 3072) (by norm_num)
    inb_S4096x35_S512x35_3072_0 inb_S4096x1152_S512x384_3072_768 z, ?_⟩
  refine List.forall_mem_cons.mpr ⟨fun z => left_piece (first_keeps7 c arg1 harg1 x0 _ _) harg1 x0 (weightsArr x1 x2 x6) _ h1 (tablesArr x3 x4 x5) (positionsArr x6) (lo := 3072)
    inb_S4096x128_S512x32_3072_0 inb_S4096x128_S512x128_3072_0 inb_S4096x35_S512x35_3072_0 inb_S4096x1152_S512x768_3072_0 z, ?_⟩
  refine List.forall_mem_cons.mpr ⟨fun z => right_piece harg1 x0 (weightsArr x1 x2 x6) (tablesArr x3 x4 x5) _ h2 (positionsArr x6) _ h3 (lo := 2560) (by norm_num)
    inb_S4096x35_S512x35_2560_0 inb_S4096x1152_S512x384_2560_768 z, ?_⟩
  refine List.forall_mem_cons.mpr ⟨fun z => left_piece (first_keeps6 c arg1 harg1 x0 _ _) harg1 x0 (weightsArr x1 x2 x6) _ h1 (tablesArr x3 x4 x5) (positionsArr x6) (lo := 2560)
    inb_S4096x128_S512x32_2560_0 inb_S4096x128_S512x128_2560_0 inb_S4096x35_S512x35_2560_0 inb_S4096x1152_S512x768_2560_0 z, ?_⟩
  refine List.forall_mem_cons.mpr ⟨fun z => right_piece harg1 x0 (weightsArr x1 x2 x6) (tablesArr x3 x4 x5) _ h2 (positionsArr x6) _ h3 (lo := 2048) (by norm_num)
    inb_S4096x35_S512x35_2048_0 inb_S4096x1152_S512x384_2048_768 z, ?_⟩
  refine List.forall_mem_cons.mpr ⟨fun z => left_piece (first_keeps5 c arg1 harg1 x0 _ _) harg1 x0 (weightsArr x1 x2 x6) _ h1 (tablesArr x3 x4 x5) (positionsArr x6) (lo := 2048)
    inb_S4096x128_S512x32_2048_0 inb_S4096x128_S512x128_2048_0 inb_S4096x35_S512x35_2048_0 inb_S4096x1152_S512x768_2048_0 z, ?_⟩
  refine List.forall_mem_cons.mpr ⟨fun z => right_piece harg1 x0 (weightsArr x1 x2 x6) (tablesArr x3 x4 x5) _ h2 (positionsArr x6) _ h3 (lo := 1536) (by norm_num)
    inb_S4096x35_S512x35_1536_0 inb_S4096x1152_S512x384_1536_768 z, ?_⟩
  refine List.forall_mem_cons.mpr ⟨fun z => left_piece (first_keeps4 c arg1 harg1 x0 _ _) harg1 x0 (weightsArr x1 x2 x6) _ h1 (tablesArr x3 x4 x5) (positionsArr x6) (lo := 1536)
    inb_S4096x128_S512x32_1536_0 inb_S4096x128_S512x128_1536_0 inb_S4096x35_S512x35_1536_0 inb_S4096x1152_S512x768_1536_0 z, ?_⟩
  refine List.forall_mem_cons.mpr ⟨fun z => right_piece harg1 x0 (weightsArr x1 x2 x6) (tablesArr x3 x4 x5) _ h2 (positionsArr x6) _ h3 (lo := 1024) (by norm_num)
    inb_S4096x35_S512x35_1024_0 inb_S4096x1152_S512x384_1024_768 z, ?_⟩
  refine List.forall_mem_cons.mpr ⟨fun z => left_piece (first_keeps3 c arg1 harg1 x0 _ _) harg1 x0 (weightsArr x1 x2 x6) _ h1 (tablesArr x3 x4 x5) (positionsArr x6) (lo := 1024)
    inb_S4096x128_S512x32_1024_0 inb_S4096x128_S512x128_1024_0 inb_S4096x35_S512x35_1024_0 inb_S4096x1152_S512x768_1024_0 z, ?_⟩
  refine List.forall_mem_cons.mpr ⟨fun z => right_piece harg1 x0 (weightsArr x1 x2 x6) (tablesArr x3 x4 x5) _ h2 (positionsArr x6) _ h3 (lo := 512) (by norm_num)
    inb_S4096x35_S512x35_512_0 inb_S4096x1152_S512x384_512_768 z, ?_⟩
  refine List.forall_mem_cons.mpr ⟨fun z => left_piece (first_keeps2 c arg1 harg1 x0 _ _) harg1 x0 (weightsArr x1 x2 x6) _ h1 (tablesArr x3 x4 x5) (positionsArr x6) (lo := 512)
    inb_S4096x128_S512x32_512_0 inb_S4096x128_S512x128_512_0 inb_S4096x35_S512x35_512_0 inb_S4096x1152_S512x768_512_0 z, ?_⟩
  refine List.forall_mem_cons.mpr ⟨fun z => right_piece harg1 x0 (weightsArr x1 x2 x6) (tablesArr x3 x4 x5) _ h2 (positionsArr x6) _ h3 (lo := 0) (by norm_num)
    inb_S4096x35_S512x35_0_0 inb_S4096x1152_S512x384_0_768 z, ?_⟩
  refine List.forall_mem_cons.mpr ⟨fun z => left_piece (whole_keeps _ _) harg1 x0 (weightsArr x1 x2 x6) _ h1 (tablesArr x3 x4 x5) (positionsArr x6) (lo := 0)
    inb_S4096x128_S512x32_0_0 inb_S4096x128_S512x128_0_0 inb_S4096x35_S512x35_0_0 inb_S4096x1152_S512x768_0_0 z, ?_⟩
  exact fun p hp => absurd hp List.not_mem_nil

end Cert.KernelIdeal.Fused

end
-- ==== Proof.Ideal.Result.lean ====
/-
  What the idealized kernel's launch leaves: its scratch buffers after every point, and the result's block at every point as
  `block` of the point's tile and the arguments.
-/
module

public import proofs.«01_k».proof.Proof.Ideal.Outcome
public import Idealize.ShloMosaic.Lib.Pipeline.ValueKit
public import Idealize.ShloMosaic.Lib.Pipeline.Covers

@[expose] public section

set_option maxRecDepth 16384

noncomputable section

namespace Cert.KernelIdeal.Fused

open Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-! ## The arguments, as the body's blocks hold them -/

/-- The projection's weights. -/
abbrev argW (c : Dev nD) : Vec Ideal S32x768 .f32 := m ((c : Thread nD τ).loc main_arg1)
/-- The projection's bias, as one row. -/
abbrev argB (c : Dev nD) : Vec Ideal S1x768 .f32 := fun y => m ((c : Thread nD τ).loc main_arg2) (ix1 (y 1))
/-- The first table. -/
abbrev argD (c : Dev nD) : Vec Ideal S15x128 .f32 := m ((c : Thread nD τ).loc main_arg3)
/-- The second table. -/
abbrev argP (c : Dev nD) : Vec Ideal S64x128 .f32 := m ((c : Thread nD τ).loc main_arg4)
/-- The third table. -/
abbrev argG (c : Dev nD) : Vec Ideal S20x128 .f32 := m ((c : Thread nD τ).loc main_arg5)
/-- The positions. -/
abbrev argE (c : Dev nD) : Vec Ideal S64x1152 .f32 := m ((c : Thread nD τ).loc main_arg6)

/-- Every argument but the first is one block, the same at every point. -/
theorem index_const : ∀ t : Fin grid0.N, win0_1.index t = ![0, 0] ∧ win0_2.index t = ![0, 0] ∧ win0_3.index t = ![0, 0]
    ∧ win0_4.index t = ![0, 0] ∧ win0_5.index t = ![0, 0] ∧ win0_6.index t = ![0, 0] := by decide +kernel

/-- The first argument and the result move by one block of rows a point. -/
theorem index_rows : ∀ t : Fin grid0.N, win0_0.index t = ![t.val, 0] ∧ win0_7.index t = ![t.val, 0] := by decide +kernel

/-- The first argument's rows, as the launch finds them. -/
theorem entry0 (c : Dev nD) : V m c main_v0 = shapeCast S262144x35 (m ((c : Thread nD τ).loc main_arg0)) shapeCasts_S4096x64x35_S262144x35 := by
  entry_read
  rfl
/-- The rows of a box laid end to end: row `p` is row `p % 64` of sheet `p / 64`. -/
theorem rows_apply (x : Vec Ideal S4096x64x35 .f32) (p : Fin 262144) (k : Fin 35) :
    shapeCast S262144x35 x shapeCasts_S4096x64x35_S262144x35 (ix2 p k) = x (ix3 ⟨p.val / 64, by omega⟩ ⟨p.val % 64, Nat.mod_lt _ (by norm_num)⟩ k) := by
  refine shapeCast_apply _ _ _ _ ?_
  rw [Shape.rowMajor_val_three, Shape.rowMajor_val_two]
  show (p.val / 64 * 64 + p.val % 64) * 35 + k.val = p.val * 35 + k.val
  omega
/-- The bias as one row, as the launch finds it. -/
theorem entry1 (c : Dev nD) : V m c main_v1 = shapeCast S1x768 (m ((c : Thread nD τ).loc main_arg2)) shapeCasts_S768_S1x768 := by
  entry_read
  rfl

theorem blk1 (c : Dev nD) (t : Fin cfg0.N) : iblk m c 1 t = argW m c := by
  funext y; blk_ext [iblk, V, index_const t]
theorem blk2 (c : Dev nD) (t : Fin cfg0.N) : iblk m c 2 t = argB m c := by
  funext y
  refine (congrFun (entry1 m c) _).trans ?_
  pointwise
  blk_ext [iblk, V, index_const t]
theorem blk3 (c : Dev nD) (t : Fin cfg0.N) : iblk m c 3 t = argD m c := by
  funext y; blk_ext [iblk, V, index_const t]
theorem blk4 (c : Dev nD) (t : Fin cfg0.N) : iblk m c 4 t = argP m c := by
  funext y; blk_ext [iblk, V, index_const t]
theorem blk5 (c : Dev nD) (t : Fin cfg0.N) : iblk m c 5 t = argG m c := by
  funext y; blk_ext [iblk, V, index_const t]
theorem blk6 (c : Dev nD) (t : Fin cfg0.N) : iblk m c 6 t = argE m c := by
  funext y; blk_ext [iblk, V, index_const t]

/-- Row `r` of a point's tile is token `r % 64` of batch entry `64 t + r / 64`. -/
theorem blk0 (c : Dev nD) (t : Fin cfg0.N) (r : Fin 4096) (k : Fin 35) (h : 64 * t.val + r.val / 64 < 4096) :
    iblk m c 0 t (ix2 r k) = m ((c : Thread nD τ).loc main_arg0) (ix3 ⟨64 * t.val + r.val / 64, h⟩ ⟨r.val % 64, Nat.mod_lt _ (by norm_num)⟩ k) := by
  have ht : t.val < 64 := t.isLt
  have e : (win0_0.blk t).view.emb (ix2 r k) = ix2 (⟨4096 * t.val + r.val, by omega⟩ : Fin 262144) k := by
    blk_ext [index_rows t]
  show V m c main_v0 ((win0_0.blk t).view.emb (ix2 r k)) = _
  rw [e, entry0, rows_apply]
  have e0 : (4096 * t.val + r.val) / 64 = 64 * t.val + r.val / 64 := by omega
  have e1 : (4096 * t.val + r.val) % 64 = r.val % 64 := by omega
  simp only [e0, e1]

/-! ## The scratch buffers -/

/-- The scratch buffers hold the features' fixed part, the joined weights, the joined tables and the repeated positions. -/
def Ready (c : Dev nD) (p : Scratch Ideal) : Prop :=
  (∀ (r : Fin 4096) (k : Fin 128), 32 ≤ k.val → p.1 (ix2 r k) = tail r k)
    ∧ p.2.1 = weightsArr (argW m c) (argB m c) (argE m c) ∧ p.2.2.1 = tablesArr (argD m c) (argP m c) (argG m c)
    ∧ p.2.2.2 = positionsArr (argE m c)

/-- The first point's stores leave the features' fixed part in the first buffer. -/
theorem first_fixed (c : Dev nD) (i : grid0.Coords) (arg1 : Memref sig .tc .vmem S4096x35 .f32) (harg1 : arg1.IsWhole) (arg2 : Memref sig .tc .vmem S32x768 .f32) (harg2 : arg2.IsWhole) (arg3 : Memref sig .tc .vmem S1x768 .f32) (harg3 : arg3.IsWhole) (arg4 : Memref sig .tc .vmem S15x128 .f32) (harg4 : arg4.IsWhole) (arg5 : Memref sig .tc .vmem S64x128 .f32) (harg5 : arg5.IsWhole) (arg6 : Memref sig .tc .vmem S20x128 .f32) (harg6 : arg6.IsWhole) (arg7 : Memref sig .tc .vmem S64x1152 .f32) (harg7 : arg7.IsWhole) (arg8 : Memref sig .tc .vmem S4096x1152 .f32) (harg8 : arg8.IsWhole) (arg9 : Memref sig .tc .vmem S4096x128 .bf16) (harg9 : arg9.IsWhole) (arg10 : Memref sig .tc .vmem S128x768 .bf16) (harg10 : arg10.IsWhole) (arg11 : Memref sig .tc .vmem S128x384 .bf16) (harg11 : arg11.IsWhole) (arg12 : Memref sig .tc .vmem S512x384 .f32) (harg12 : arg12.IsWhole) (hfirst : AtFirst i)
    (x0 : Vec Ideal S4096x35 .f32) (x1 : Vec Ideal S32x768 .f32) (x2 : Vec Ideal S1x768 .f32) (x3 : Vec Ideal S15x128 .f32) (x4 : Vec Ideal S64x128 .f32) (x5 : Vec Ideal S20x128 .f32) (x6 : Vec Ideal S64x1152 .f32) (v : View sig .tc .vmem S4096x128 .bf16) (f : v.ty.Contents (Elt Ideal)) :
    Keeps v f (runFirst (F := Ideal) c i arg1 harg1 arg2 harg2 arg3 harg3 arg4 harg4 arg5 harg5 arg6 harg6 arg7 harg7 arg8 harg8 arg9 harg9 arg10 harg10 arg11 harg11 arg12 harg12 hfirst x0 x1 x2 x3 x4 x5 x6).2.1 := first_keeps9 c arg1 harg1 x0 v f

/-- The first point's stores leave the joined weights in the second. -/
theorem first_weights (c : Dev nD) (i : grid0.Coords) (arg1 : Memref sig .tc .vmem S4096x35 .f32) (harg1 : arg1.IsWhole) (arg2 : Memref sig .tc .vmem S32x768 .f32) (harg2 : arg2.IsWhole) (arg3 : Memref sig .tc .vmem S1x768 .f32) (harg3 : arg3.IsWhole) (arg4 : Memref sig .tc .vmem S15x128 .f32) (harg4 : arg4.IsWhole) (arg5 : Memref sig .tc .vmem S64x128 .f32) (harg5 : arg5.IsWhole) (arg6 : Memref sig .tc .vmem S20x128 .f32) (harg6 : arg6.IsWhole) (arg7 : Memref sig .tc .vmem S64x1152 .f32) (harg7 : arg7.IsWhole) (arg8 : Memref sig .tc .vmem S4096x1152 .f32) (harg8 : arg8.IsWhole) (arg9 : Memref sig .tc .vmem S4096x128 .bf16) (harg9 : arg9.IsWhole) (arg10 : Memref sig .tc .vmem S128x768 .bf16) (harg10 : arg10.IsWhole) (arg11 : Memref sig .tc .vmem S128x384 .bf16) (harg11 : arg11.IsWhole) (arg12 : Memref sig .tc .vmem S512x384 .f32) (harg12 : arg12.IsWhole) (hfirst : AtFirst i)
    (x0 : Vec Ideal S4096x35 .f32) (x1 : Vec Ideal S32x768 .f32) (x2 : Vec Ideal S1x768 .f32) (x3 : Vec Ideal S15x128 .f32) (x4 : Vec Ideal S64x128 .f32) (x5 : Vec Ideal S20x128 .f32) (x6 : Vec Ideal S64x1152 .f32) (v : View sig .tc .vmem S128x768 .bf16) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 hfirst x0 x1 x2 x3 x4 x5 x6).2.2.1) = weightsArr x1 x2 x6 := by
  funext y
  obtain ⟨k, j, rfl⟩ : ∃ (k : Fin 128) (j : Fin 768), y = ix2 k j := ⟨y 0, y 1, eq_ix2 y⟩
  exact weights_read c arg2 harg2 arg3 harg3 arg7 harg7 arg10 x1 x2 x6 v f k j

/-- The first point's stores leave the joined tables in the third. -/
theorem first_tables (c : Dev nD) (i : grid0.Coords) (arg1 : Memref sig .tc .vmem S4096x35 .f32) (harg1 : arg1.IsWhole) (arg2 : Memref sig .tc .vmem S32x768 .f32) (harg2 : arg2.IsWhole) (arg3 : Memref sig .tc .vmem S1x768 .f32) (harg3 : arg3.IsWhole) (arg4 : Memref sig .tc .vmem S15x128 .f32) (harg4 : arg4.IsWhole) (arg5 : Memref sig .tc .vmem S64x128 .f32) (harg5 : arg5.IsWhole) (arg6 : Memref sig .tc .vmem S20x128 .f32) (harg6 : arg6.IsWhole) (arg7 : Memref sig .tc .vmem S64x1152 .f32) (harg7 : arg7.IsWhole) (arg8 : Memref sig .tc .vmem S4096x1152 .f32) (harg8 : arg8.IsWhole) (arg9 : Memref sig .tc .vmem S4096x128 .bf16) (harg9 : arg9.IsWhole) (arg10 : Memref sig .tc .vmem S128x768 .bf16) (harg10 : arg10.IsWhole) (arg11 : Memref sig .tc .vmem S128x384 .bf16) (harg11 : arg11.IsWhole) (arg12 : Memref sig .tc .vmem S512x384 .f32) (harg12 : arg12.IsWhole) (hfirst : AtFirst i)
    (x0 : Vec Ideal S4096x35 .f32) (x1 : Vec Ideal S32x768 .f32) (x2 : Vec Ideal S1x768 .f32) (x3 : Vec Ideal S15x128 .f32) (x4 : Vec Ideal S64x128 .f32) (x5 : Vec Ideal S20x128 .f32) (x6 : Vec Ideal S64x1152 .f32) (v : View sig .tc .vmem S128x384 .bf16) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 hfirst x0 x1 x2 x3 x4 x5 x6).2.2.2.1) = tablesArr x3 x4 x5 := by
  funext y
  obtain ⟨k, j, rfl⟩ : ∃ (k : Fin 128) (j : Fin 384), y = ix2 k j := ⟨y 0, y 1, eq_ix2 y⟩
  exact tables_read c arg4 harg4 arg5 harg5 arg6 harg6 arg11 x3 x4 x5 v f k j

/-- The first point's stores leave the repeated positions in the fourth. -/
theorem first_positions (c : Dev nD) (i : grid0.Coords) (arg1 : Memref sig .tc .vmem S4096x35 .f32) (harg1 : arg1.IsWhole) (arg2 : Memref sig .tc .vmem S32x768 .f32) (harg2 : arg2.IsWhole) (arg3 : Memref sig .tc .vmem S1x768 .f32) (harg3 : arg3.IsWhole) (arg4 : Memref sig .tc .vmem S15x128 .f32) (harg4 : arg4.IsWhole) (arg5 : Memref sig .tc .vmem S64x128 .f32) (harg5 : arg5.IsWhole) (arg6 : Memref sig .tc .vmem S20x128 .f32) (harg6 : arg6.IsWhole) (arg7 : Memref sig .tc .vmem S64x1152 .f32) (harg7 : arg7.IsWhole) (arg8 : Memref sig .tc .vmem S4096x1152 .f32) (harg8 : arg8.IsWhole) (arg9 : Memref sig .tc .vmem S4096x128 .bf16) (harg9 : arg9.IsWhole) (arg10 : Memref sig .tc .vmem S128x768 .bf16) (harg10 : arg10.IsWhole) (arg11 : Memref sig .tc .vmem S128x384 .bf16) (harg11 : arg11.IsWhole) (arg12 : Memref sig .tc .vmem S512x384 .f32) (harg12 : arg12.IsWhole) (hfirst : AtFirst i)
    (x0 : Vec Ideal S4096x35 .f32) (x1 : Vec Ideal S32x768 .f32) (x2 : Vec Ideal S1x768 .f32) (x3 : Vec Ideal S15x128 .f32) (x4 : Vec Ideal S64x128 .f32) (x5 : Vec Ideal S20x128 .f32) (x6 : Vec Ideal S64x1152 .f32) (v : View sig .tc .vmem S512x384 .f32) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 hfirst x0 x1 x2 x3 x4 x5 x6).2.2.2.2.1) = positionsArr x6 := by
  funext y
  obtain ⟨k, j, rfl⟩ : ∃ (k : Fin 512) (j : Fin 384), y = ix2 k j := ⟨y 0, y 1, eq_ix2 y⟩
  exact positions_read c arg7 harg7 x6 v f k j

/-- A later point's stores keep the features' fixed part. -/
theorem later_fixed (c : Dev nD) (i : grid0.Coords) (arg1 : Memref sig .tc .vmem S4096x35 .f32) (harg1 : arg1.IsWhole) (arg2 : Memref sig .tc .vmem S32x768 .f32) (harg2 : arg2.IsWhole) (arg3 : Memref sig .tc .vmem S1x768 .f32) (harg3 : arg3.IsWhole) (arg4 : Memref sig .tc .vmem S15x128 .f32) (harg4 : arg4.IsWhole) (arg5 : Memref sig .tc .vmem S64x128 .f32) (harg5 : arg5.IsWhole) (arg6 : Memref sig .tc .vmem S20x128 .f32) (harg6 : arg6.IsWhole) (arg7 : Memref sig .tc .vmem S64x1152 .f32) (harg7 : arg7.IsWhole) (arg8 : Memref sig .tc .vmem S4096x1152 .f32) (harg8 : arg8.IsWhole) (arg9 : Memref sig .tc .vmem S4096x128 .bf16) (harg9 : arg9.IsWhole) (arg10 : Memref sig .tc .vmem S128x768 .bf16) (harg10 : arg10.IsWhole) (arg11 : Memref sig .tc .vmem S128x384 .bf16) (harg11 : arg11.IsWhole) (arg12 : Memref sig .tc .vmem S512x384 .f32) (harg12 : arg12.IsWhole) (hlater : ¬AtFirst i)
    (x0 : Vec Ideal S4096x35 .f32) (x1 : Vec Ideal S32x768 .f32) (x2 : Vec Ideal S1x768 .f32) (x3 : Vec Ideal S15x128 .f32) (x4 : Vec Ideal S64x128 .f32) (x5 : Vec Ideal S20x128 .f32) (x6 : Vec Ideal S64x1152 .f32) (s0 : Vec Ideal S4096x128 .bf16) (s1 : Vec Ideal S128x768 .bf16) (s2 : Vec Ideal S128x384 .bf16) (s3 : Vec Ideal S512x384 .f32) {v : View sig .tc .vmem S4096x128 .bf16} {f : v.ty.Contents (Elt Ideal)} (h : Keeps v f []) :
    Keeps v f (runLater (F := Ideal) c i arg1 harg1 arg2 harg2 arg3 harg3 arg4 harg4 arg5 harg5 arg6 harg6 arg7 harg7 arg8 harg8 arg9 harg9 arg10 harg10 arg11 harg11 arg12 harg12 hlater x0 x1 x2 x3 x4 x5 x6 s0 s1 s2 s3).2.1 := later_keeps8 c arg1 harg1 x0 h

set_option maxHeartbeats 4000000 in
/-- The first point leaves them so. -/
theorem ready_first (c : Dev nD) (t : Fin cfg0.N) (h : t.val = 0) : Ready m c (firstScratch m c t h) := by
  have e0 := first_fixed c (grid0.coords t) (stg0 t) (whole0 t) (stg1 t) (whole1 t) (stg2 t) (whole2 t) (stg3 t) (whole3 t) (stg4 t) (whole4 t) (stg5 t) (whole5 t) (stg6 t) (whole6 t) (stg7 t) (whole7 t) scr0 (Memref.isWhole_whole _) scr1 (Memref.isWhole_whole _) scr2 (Memref.isWhole_whole _) scr3 (Memref.isWhole_whole _) ((atFirst_iff t).mpr h) (iblk m c 0 t) (iblk m c 1 t) (iblk m c 2 t) (iblk m c 3 t) (iblk m c 4 t) (iblk m c 5 t) (iblk m c 6 t) scr0.view scr0.view.junk
  have e1 := first_weights c (grid0.coords t) (stg0 t) (whole0 t) (stg1 t) (whole1 t) (stg2 t) (whole2 t) (stg3 t) (whole3 t) (stg4 t) (whole4 t) (stg5 t) (whole5 t) (stg6 t) (whole6 t) (stg7 t) (whole7 t) scr0 (Memref.isWhole_whole _) scr1 (Memref.isWhole_whole _) scr2 (Memref.isWhole_whole _) scr3 (Memref.isWhole_whole _) ((atFirst_iff t).mpr h) (iblk m c 0 t) (iblk m c 1 t) (iblk m c 2 t) (iblk m c 3 t) (iblk m c 4 t) (iblk m c 5 t) (iblk m c 6 t) scr1.view scr1.view.junk
  have e2 := first_tables c (grid0.coords t) (stg0 t) (whole0 t) (stg1 t) (whole1 t) (stg2 t) (whole2 t) (stg3 t) (whole3 t) (stg4 t) (whole4 t) (stg5 t) (whole5 t) (stg6 t) (whole6 t) (stg7 t) (whole7 t) scr0 (Memref.isWhole_whole _) scr1 (Memref.isWhole_whole _) scr2 (Memref.isWhole_whole _) scr3 (Memref.isWhole_whole _) ((atFirst_iff t).mpr h) (iblk m c 0 t) (iblk m c 1 t) (iblk m c 2 t) (iblk m c 3 t) (iblk m c 4 t) (iblk m c 5 t) (iblk m c 6 t) scr2.view scr2.view.junk
  have e3 := first_positions c (grid0.coords t) (stg0 t) (whole0 t) (stg1 t) (whole1 t) (stg2 t) (whole2 t) (stg3 t) (whole3 t) (stg4 t) (whole4 t) (stg5 t) (whole5 t) (stg6 t) (whole6 t) (stg7 t) (whole7 t) scr0 (Memref.isWhole_whole _) scr1 (Memref.isWhole_whole _) scr2 (Memref.isWhole_whole _) scr3 (Memref.isWhole_whole _) ((atFirst_iff t).mpr h) (iblk m c 0 t) (iblk m c 1 t) (iblk m c 2 t) (iblk m c 3 t) (iblk m c 4 t) (iblk m c 5 t) (iblk m c 6 t) scr3.view scr3.view.junk
  unfold firstScratch Ready
  refine ⟨e0, e1.trans ?_, e2.trans ?_, e3.trans ?_⟩
  · rw [blk1, blk2, blk6]
  · rw [blk3, blk4, blk5]
  · rw [blk6]

/-- A later point keeps them so. -/
theorem ready_later (c : Dev nD) (t : Fin cfg0.N) (h : ¬t.val = 0) (p : Scratch Ideal) (hp : Ready m c p) : Ready m c (laterScratch m c t h p) := by
  have hk : Keeps scr0.view ((Memref.isWhole_whole cc0_scratch0).unread p.1) [] := fun r k hk => by
    rw [View.writes_nil, Memref.IsWhole.read_unread]; exact hp.1 r k hk
  have e0 := later_fixed c (grid0.coords t) (stg0 t) (whole0 t) (stg1 t) (whole1 t) (stg2 t) (whole2 t) (stg3 t) (whole3 t) (stg4 t) (whole4 t) (stg5 t) (whole5 t) (stg6 t) (whole6 t) (stg7 t) (whole7 t) scr0 (Memref.isWhole_whole _) scr1 (Memref.isWhole_whole _) scr2 (Memref.isWhole_whole _) scr3 (Memref.isWhole_whole _) (fun a => h ((atFirst_iff t).mp a)) (iblk m c 0 t) (iblk m c 1 t) (iblk m c 2 t) (iblk m c 3 t) (iblk m c 4 t) (iblk m c 5 t) (iblk m c 6 t) p.1 p.2.1 p.2.2.1 p.2.2.2 hk
  unfold laterScratch Ready
  exact ⟨e0, hp.2⟩

/-- After every point they are so. -/
theorem ready_after (c : Dev nD) : ∀ (n : ℕ) (h : n < cfg0.N), Ready m c (scratchAfter m c n h)
  | 0, h => ready_first m c ⟨0, h⟩ rfl
  | n + 1, h => ready_later m c ⟨n + 1, h⟩ (Nat.succ_ne_zero n) _ (ready_after c n (Nat.lt_of_succ_lt h))

/-! ## The result's blocks -/

/-- At every point the result's block is `block` of the point's tile and the joined arrays. -/
theorem outAt_eq (c : Dev nD) (t : Fin cfg0.N) :
    outAt m c t = block (iblk m c 0 t) (weightsArr (argW m c) (argB m c) (argE m c)) (tablesArr (argD m c) (argP m c) (argG m c)) (positionsArr (argE m c)) := by
  unfold outAt
  split
  · rename_i h
    refine (first_block c (grid0.coords t) (stg0 t) (whole0 t) (stg1 t) (whole1 t) (stg2 t) (whole2 t) (stg3 t) (whole3 t) (stg4 t) (whole4 t) (stg5 t) (whole5 t) (stg6 t) (whole6 t) (stg7 t) (whole7 t) scr0 (Memref.isWhole_whole _) scr1 (Memref.isWhole_whole _) scr2 (Memref.isWhole_whole _) scr3 (Memref.isWhole_whole _) ((atFirst_iff t).mpr h) (iblk m c 0 t) (iblk m c 1 t) (iblk m c 2 t) (iblk m c 3 t) (iblk m c 4 t) (iblk m c 5 t) (iblk m c 6 t) outV outV.junk).trans ?_
    rw [blk1 m c t, blk2 m c t, blk3 m c t, blk4 m c t, blk5 m c t, blk6 m c t]
  · rename_i h
    have hp := ready_after m c (t.val - 1) (Nat.lt_of_le_of_lt (Nat.sub_le _ _) t.isLt)
    refine (later_block c (grid0.coords t) (stg0 t) (whole0 t) (stg1 t) (whole1 t) (stg2 t) (whole2 t) (stg3 t) (whole3 t) (stg4 t) (whole4 t) (stg5 t) (whole5 t) (stg6 t) (whole6 t) (stg7 t) (whole7 t) scr0 (Memref.isWhole_whole _) scr1 (Memref.isWhole_whole _) scr2 (Memref.isWhole_whole _) scr3 (Memref.isWhole_whole _) (fun a => h ((atFirst_iff t).mp a)) (iblk m c 0 t) (iblk m c 1 t) (iblk m c 2 t) (iblk m c 3 t) (iblk m c 4 t) (iblk m c 5 t) (iblk m c 6 t) _ _ _ _ hp.1 outV outV.junk).trans ?_
    rw [hp.2.1, hp.2.2.1, hp.2.2.2]

end Cert.KernelIdeal.Fused

end
-- ==== Proof.Ideal.Closed.lean ====
/-
  The blocks in closed form: a row's left part is its product with the weights, its position and the bias; its right part, for
  indices inside their tables, is one table's row and its position.
-/
module

public import proofs.«01_k».proof.Proof.Ideal.Outcome
public import Idealize.ShloMosaic.Lib.WordCmp

@[expose] public section

set_option maxRecDepth 16384

noncomputable section

namespace Cert.KernelIdeal.Fused

open Cert.KernelIdeal.Gen
open Idealize.ShloMosaic Idealize.ShloMosaic.Tactic

/-! ## The coefficients -/

/-- An `or` of two bits is one exactly when one of them is. -/
theorem ori_one (a b : BitVec 1) : IntOp.ori a b = 1#1 ↔ a = 1#1 ∨ b = 1#1 := by
  revert a b; decide

/-- The bit of an equality. -/
theorem eq_one {w : ℕ} (x y : BitVec w) : IntOp.cmpi .eq x y = 1#1 ↔ x.toNat = y.toNat := by
  rw [WordCmp.cmpi_eq_eq, BitVec.toNat_inj]
  by_cases h : x = y <;> simp [h]

/-- The fixed features from column 32 on. -/
theorem tail_high (r : Fin 4096) (k : Fin 128) (h : 32 ≤ k.val) : tail r k = if k.val - 32 = r.val % 64 ∨ k.val = 96 then 1 else 0 := by
  have hk := k.isLt
  have hr := r.isLt
  unfold tail
  rw [bit_eq]
  refine if_congr ?_ rfl rfl
  rw [ori_one, eq_one, eq_one]
  have e1 : (IntOp.subi (BitVec.ofNat 32 k) 32#32).toNat = k.val - 32 := by
    show (BitVec.ofNat 32 k.val - 32#32).toNat = _
    rw [BitVec.toNat_sub, BitVec.toNat_ofNat, BitVec.toNat_ofNat]; omega
  have e2 : (IntOp.andi (BitVec.ofNat 32 r) 63#32).toNat = r.val % 64 := by
    show (BitVec.ofNat 32 r.val &&& 63#32).toNat = _
    rw [BitVec.toNat_and, show (63#32 : BitVec 32).toNat = 2 ^ 6 - 1 from rfl, Nat.and_two_pow_sub_one_eq_mod, BitVec.toNat_ofNat]; omega
  have e3 : (BitVec.ofNat 32 k.val).toNat = k.val := by rw [BitVec.toNat_ofNat]; omega
  rw [e1, e2, e3]
  rfl

/-- The coefficients of a row whose indices are `D`, `P` and `G`. -/
theorem hot_at (D P G : ℕ) (hD : D < 15) (hP : P < 64) (hG : G < 20) (k : Fin 128) :
    hot (BitVec.ofNat 32 D) (BitVec.ofNat 32 P) (BitVec.ofNat 32 G) k = if (k.val = D ∨ k.val = P + 15) ∨ k.val = G + 79 then 1 else 0 := by
  have hk := k.isLt
  unfold hot
  rw [bit_eq]
  refine if_congr ?_ rfl rfl
  rw [ori_one, ori_one, eq_one, eq_one, eq_one]
  have e1 : (IntOp.addi (BitVec.ofNat 32 P) 15#32).toNat = P + 15 := by
    show (BitVec.ofNat 32 P + 15#32).toNat = _
    rw [BitVec.toNat_add, BitVec.toNat_ofNat, BitVec.toNat_ofNat]; omega
  have e2 : (IntOp.addi (IntOp.addi (BitVec.ofNat 32 G) 15#32) 64#32).toNat = G + 79 := by
    show (BitVec.ofNat 32 G + 15#32 + 64#32).toNat = _
    rw [BitVec.toNat_add, BitVec.toNat_add, BitVec.toNat_ofNat, BitVec.toNat_ofNat, BitVec.toNat_ofNat]; omega
  have e3 : (BitVec.ofNat 32 k.val).toNat = k.val := by rw [BitVec.toNat_ofNat]; omega
  have e4 : (BitVec.ofNat 32 D).toNat = D := by rw [BitVec.toNat_ofNat]; omega
  rw [e1, e2, e3, e4]

/-! ## The left part -/

/-- A row's left part is its product with the weights, and its position and the bias. -/
theorem left_closed (x : Vec Ideal S4096x35 .f32) (x1 : Vec Ideal S32x768 .f32) (x2 : Vec Ideal S1x768 .f32) (x6 : Vec Ideal S64x1152 .f32)
    (r : Fin 4096) (j : Fin 768) :
    leftBlock x (weightsArr x1 x2 x6) r j
      = (∑ k : Fin 32, x (ix2 r ⟨k.val, by omega⟩) * x1 (ix2 k j))
        + (x6 (ix2 ⟨r.val % 64, by omega⟩ ⟨j.val, by omega⟩) + x2 (ix2 0 j)) := by
  unfold leftBlock
  refine (Fin.sum_univ_add (a := 32) (b := 96) fun k : Fin 128 => feat x r k * weightsArr x1 x2 x6 (ix2 k j)).trans ?_
  refine congrArg₂ (· + ·) ?_ ?_
  · refine Finset.sum_congr rfl fun k _ => ?_
    have hf : feat x r (Fin.castAdd 96 k) = x (ix2 r ⟨k.val, by omega⟩) := dif_pos k.isLt
    have hw : weightsArr x1 x2 x6 (ix2 (Fin.castAdd 96 k) j) = x1 (ix2 k j) := dif_pos k.isLt
    rw [hf, hw]
  · have h : ∀ k : Fin 96, feat x r (Fin.natAdd 32 k) * weightsArr x1 x2 x6 (ix2 (Fin.natAdd 32 k) j)
        = (if (⟨r.val % 64, by omega⟩ : Fin 96) = k then x6 (ix2 ⟨r.val % 64, by omega⟩ ⟨j.val, by omega⟩) else 0) + (if (64 : Fin 96) = k then x2 (ix2 0 j) else 0) := fun k => by
      have hk := k.isLt
      have hf : feat x r (Fin.natAdd 32 k) = if k.val = r.val % 64 ∨ k.val = 64 then 1 else 0 := by
        rw [feat_high x r _ (by show ¬(32 + k.val < 32); omega), tail_high r _ (by show 32 ≤ 32 + k.val; omega)]
        refine if_congr ?_ rfl rfl
        show 32 + k.val - 32 = _ ∨ 32 + k.val = 96 ↔ _
        omega
      have hw : weightsArr x1 x2 x6 (ix2 (Fin.natAdd 32 k) j)
          = if h : k.val < 64 then x6 (ix2 ⟨k.val, h⟩ ⟨j.val, by omega⟩) else if k.val = 64 then x2 (ix2 0 j) else 0 := by
        show joined1 x1 x2 x6 (Fin.natAdd 32 k) j = _
        unfold joined1
        rw [dif_neg (by show ¬(32 + k.val < 32); omega)]
        by_cases h : k.val < 64
        · rw [dif_pos (by show 32 + k.val < 96; omega), dif_pos h]
          congr 2
          exact Fin.ext (by show 32 + k.val - 32 = k.val; omega)
        · rw [dif_neg (by show ¬(32 + k.val < 96); omega), dif_neg h]
          refine if_congr ?_ rfl rfl
          show 32 + k.val = 96 ↔ _
          omega
      have h64 : ((64 : Fin 96) = k) ↔ k.val = 64 := by rw [Fin.ext_iff]; show 64 = k.val ↔ _; omega
      have hr : ((⟨r.val % 64, by omega⟩ : Fin 96) = k) ↔ k.val = r.val % 64 := by rw [Fin.ext_iff]; show r.val % 64 = k.val ↔ _; omega
      rw [hf, hw, if_congr h64 rfl rfl, if_congr hr rfl rfl]
      by_cases h1 : k.val = r.val % 64
      · rw [if_pos (Or.inl h1), dif_pos (by omega), if_pos h1, if_neg (by omega), one_mul, add_zero]
        congr 2
        exact Fin.ext h1
      · by_cases h2 : k.val = 64
        · rw [if_pos (Or.inr h2), dif_neg (by omega), if_pos h2, if_neg h1, one_mul, zero_add]
        · rw [if_neg (by omega), if_neg h1, if_neg h2, zero_mul, add_zero]
    refine (Finset.sum_congr rfl fun k _ => h k).trans ?_
    rw [Finset.sum_add_distrib, Finset.sum_ite_eq, Finset.sum_ite_eq, if_pos (Finset.mem_univ _), if_pos (Finset.mem_univ _)]

/-! ## The right part -/

/-- The table's entry that a row of indices `D`, `P` and `G` takes in column `j`. -/
def looked (x3 : Vec Ideal S15x128 .f32) (x4 : Vec Ideal S64x128 .f32) (x5 : Vec Ideal S20x128 .f32) (D : Fin 15) (P : Fin 64) (G : Fin 20) (j : Fin 384) : EReal :=
  if h : j.val < 128 then x3 (ix2 D ⟨j.val, h⟩)
  else if h : j.val < 256 then x4 (ix2 P ⟨j.val - 128, by omega⟩)
  else x5 (ix2 G ⟨j.val - 256, by omega⟩)

/-- A sum with one nonzero term. -/
theorem sum_one (f : Fin 128 → EReal) (a : Fin 128) (v : EReal) (h : ∀ k, f k = if a = k then v else 0) : ∑ k, f k = v := by
  refine (Finset.sum_congr rfl fun k _ => h k).trans ?_
  rw [Finset.sum_ite_eq, if_pos (Finset.mem_univ _)]

/-- The coefficients pick one table's row out of the joined tables. -/
theorem picked (x3 : Vec Ideal S15x128 .f32) (x4 : Vec Ideal S64x128 .f32) (x5 : Vec Ideal S20x128 .f32) (D : Fin 15) (P : Fin 64) (G : Fin 20) (j : Fin 384) :
    ∑ k : Fin 128, hot (BitVec.ofNat 32 D.val) (BitVec.ofNat 32 P.val) (BitVec.ofNat 32 G.val) k * tablesArr x3 x4 x5 (ix2 k j) = looked x3 x4 x5 D P G j := by
  have hD := D.isLt
  have hP := P.isLt
  have hG := G.isLt
  have hj := j.isLt
  unfold looked
  by_cases h1 : j.val < 128
  · rw [dif_pos h1]
    refine sum_one _ ⟨D.val, by omega⟩ _ fun k => ?_
    have hk := k.isLt
    rw [hot_at D.val P.val G.val hD hP hG k]
    have hiff : ((⟨D.val, by omega⟩ : Fin 128) = k) ↔ k.val = D.val := by rw [Fin.ext_iff]; show D.val = k.val ↔ _; omega
    rw [if_congr hiff rfl rfl]
    show _ * joined2 x3 x4 x5 k j = _
    unfold joined2
    by_cases h : k.val = D.val
    · rw [if_pos (Or.inl (Or.inl h)), if_pos h, dif_pos ⟨by omega, h1⟩, one_mul]
      congr 2
      exact Fin.ext h
    · rw [if_neg h]
      by_cases hk' : k.val < 15
      · rw [if_neg (by omega), zero_mul]
      · rw [dif_neg (by omega), dif_neg (by omega), dif_neg (by omega), mul_zero]
  · rw [dif_neg h1]
    by_cases h2 : j.val < 256
    · rw [dif_pos h2]
      refine sum_one _ ⟨P.val + 15, by omega⟩ _ fun k => ?_
      have hk := k.isLt
      rw [hot_at D.val P.val G.val hD hP hG k]
      have hiff : ((⟨P.val + 15, by omega⟩ : Fin 128) = k) ↔ k.val = P.val + 15 := by rw [Fin.ext_iff]; show P.val + 15 = k.val ↔ _; omega
      rw [if_congr hiff rfl rfl]
      show _ * joined2 x3 x4 x5 k j = _
      unfold joined2
      by_cases h : k.val = P.val + 15
      · rw [if_pos (Or.inl (Or.inr h)), if_pos h, dif_neg (by omega), dif_pos ⟨by omega, by omega⟩, one_mul]
        congr 2
        exact Fin.ext (by show k.val - 15 = P.val; omega)
      · rw [if_neg h]
        by_cases hk' : 15 ≤ k.val ∧ k.val < 79
        · rw [if_neg (by omega), zero_mul]
        · rw [dif_neg (by omega), dif_neg (by omega), dif_neg (by omega), mul_zero]
    · rw [dif_neg h2]
      refine sum_one _ ⟨G.val + 79, by omega⟩ _ fun k => ?_
      have hk := k.isLt
      rw [hot_at D.val P.val G.val hD hP hG k]
      have hiff : ((⟨G.val + 79, by omega⟩ : Fin 128) = k) ↔ k.val = G.val + 79 := by rw [Fin.ext_iff]; show G.val + 79 = k.val ↔ _; omega
      rw [if_congr hiff rfl rfl]
      show _ * joined2 x3 x4 x5 k j = _
      unfold joined2
      by_cases h : k.val = G.val + 79
      · rw [if_pos (Or.inr h), if_pos h, dif_neg (by omega), dif_neg (by omega), dif_pos ⟨by omega, by omega⟩, one_mul]
        congr 2
        exact Fin.ext (by show k.val - 79 = G.val; omega)
      · rw [if_neg h]
        by_cases hk' : 79 ≤ k.val ∧ k.val < 99
        · rw [if_neg (by omega), zero_mul]
        · rw [dif_neg (by omega), dif_neg (by omega), dif_neg (by omega), mul_zero]

/-- A row's right part, its three indices inside their tables. -/
theorem right_closed (x : Vec Ideal S4096x35 .f32) (x3 : Vec Ideal S15x128 .f32) (x4 : Vec Ideal S64x128 .f32) (x5 : Vec Ideal S20x128 .f32) (x6 : Vec Ideal S64x1152 .f32)
    (r : Fin 4096) (D : Fin 15) (P : Fin 64) (G : Fin 20) (hD : word (x (ix2 r 33)) = BitVec.ofNat 32 D.val) (hP : word (x (ix2 r 32)) = BitVec.ofNat 32 P.val)
    (hG : word (x (ix2 r 34)) = BitVec.ofNat 32 G.val) (j : Fin 384) :
    rightBlock x (tablesArr x3 x4 x5) (positionsArr x6) r j
      = looked x3 x4 x5 D P G j + x6 (ix2 ⟨r.val % 64, by omega⟩ ⟨768 + j.val, by omega⟩) := by
  unfold rightBlock
  rw [hD, hP, hG, picked]
  congr 1
  show repeated x6 ⟨r.val % 512, _⟩ j = _
  unfold repeated
  congr 2
  exact Fin.ext (by show r.val % 512 % 64 = r.val % 64; omega)

end Cert.KernelIdeal.Fused

end
-- ==== Proof.Ideal.Final.lean ====
/-
  The kernel's result: the launch's array of rows from its blocks, its reshape to batch entries and tokens, and the entries in
  closed form.
-/
module

public import proofs.«01_k».proof.Proof.Ideal.Result
public import proofs.«01_k».proof.Proof.Ideal.Closed

@[expose] public section

set_option maxRecDepth 16384

noncomputable section

namespace Cert.KernelIdeal.Fused

open Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-- The features. -/
abbrev argX (c : Dev nD) : Vec Ideal S4096x64x35 .f32 := m ((c : Thread nD τ).loc main_arg0)

/-- The block a point computes from its tile and the arguments. -/
def rowOut (c : Dev nD) (t : Fin cfg0.N) : Vec Ideal S4096x1152 .f32 :=
  block (iblk m c 0 t) (weightsArr (argW m c) (argB m c) (argE m c)) (tablesArr (argD m c) (argP m c) (argG m c)) (positionsArr (argE m c))

/-- The launch's result, row by row. -/
def rowsOut (c : Dev nD) : Vec Ideal S262144x1152 .f32 := fun y =>
  rowOut m c ⟨(y 0).val / 4096, by have h : (y 0).val < 262144 := (y 0).isLt; show _ < 64; omega⟩ (ix2 ⟨(y 0).val % 4096, Nat.mod_lt _ (by norm_num)⟩ (y 1))

/-- The result array after the launch holds every row's result. -/
theorem rows_after (c : Dev nD) : (dats m 0 c).arrAt 7 cfg0.N = rowsOut m c := by
  refine (dats m 0 c).arrAt_eq_of_covers 7 _ (by decide +kernel) fun t hf y => ?_
  blk_simp
  rw [after_7]
  obtain ⟨r, j, rfl⟩ : ∃ (r : Fin 4096) (j : Fin 1152), y = ix2 r j := ⟨y 0, y 1, eq_ix2 y⟩
  have ht : t.val < 64 := t.isLt
  have hr := r.isLt
  have e : (win0_7.blk t).view.emb (ix2 r j) = ix2 (⟨4096 * t.val + r.val, by omega⟩ : Fin 262144) j := by
    blk_ext [index_rows t]
  show outAt m c t (ix2 r j) = rowsOut m c ((win0_7.blk t).view.emb (ix2 r j))
  rw [e, outAt_eq]
  have e0 : (4096 * t.val + r.val) / 4096 = t.val := by omega
  have e1 : (4096 * t.val + r.val) % 4096 = r.val := by omega
  show rowOut m c t (ix2 r j) = rowOut m c ⟨(4096 * t.val + r.val) / 4096, _⟩ (ix2 ⟨(4096 * t.val + r.val) % 4096, _⟩ j)
  simp only [e0, e1]

/-- The kernel's result. -/
def answer (c : Dev nD) : Vec Ideal S4096x64x1152 .f32 := shapeCast S4096x64x1152 (rowsOut m c) shapeCasts_S262144x1152_S4096x64x1152

/-- The host's reshape after the launch, of any memory. -/
theorem reshape_after (σ : Valuation τ sig (Elt Ideal)) :
    StableHlo.after [hostOps1 (F := Ideal)].flatten σ (Proc.devRef .tc main_v3)
      = shapeCast S4096x64x1152 (σ (Proc.devRef .tc main_v2)) shapeCasts_S262144x1152_S4096x64x1152 := by
  simp only [hostOps1, List.flatten_cons, List.flatten_nil, List.append_nil]
  after_results_simp
  rfl

/-- What the run leaves in the kernel's result. -/
theorem tail_eq (c : Dev nD) : Pipeline.afterTail₀ cfgs (dats m) 0 (V0 m) [hostOps1] c main_v3 = answer m c := by
  have e := (Pipeline.withArrays_arr spec0 (by decide) c (V0 m c) (fun w => (dats m 0 c).arrAt w cfg0.N) 7).trans (rows_after m c)
  unfold Pipeline.afterTail₀
  exact (reshape_after _).trans (congrArg (fun A => shapeCast S4096x64x1152 A shapeCasts_S262144x1152_S4096x64x1152) e)

/-- The reshape of the rows to batch entries and tokens: entry `(a, s)` is row `64 a + s`. -/
theorem sheets_apply (x : Vec Ideal S262144x1152 .f32) (a : Fin 4096) (s : Fin 64) (j : Fin 1152) :
    shapeCast S4096x64x1152 x shapeCasts_S262144x1152_S4096x64x1152 (ix3 a s j) = x (ix2 ⟨64 * a.val + s.val, by omega⟩ j) := by
  refine shapeCast_apply _ _ _ _ ?_
  rw [Shape.rowMajor_val_three, Shape.rowMajor_val_two]
  show (64 * a.val + s.val) * 1152 + j.val = (a.val * 64 + s.val) * 1152 + j.val
  omega

/-- The point a batch entry is computed at. -/
def pointOf (a : Fin 4096) : Fin cfg0.N := ⟨a.val / 64, by show _ < 64; omega⟩

/-- The row, in its point's block, of a batch entry's token. -/
def rowOf (a : Fin 4096) (s : Fin 64) : Fin 4096 := ⟨64 * (a.val % 64) + s.val, by omega⟩

/-- The result at a batch entry's token. -/
theorem answer_at (c : Dev nD) (a : Fin 4096) (s : Fin 64) (j : Fin 1152) : answer m c (ix3 a s j) = rowOut m c (pointOf a) (ix2 (rowOf a s) j) := by
  have ha := a.isLt
  have hs := s.isLt
  have e0 : (64 * a.val + s.val) / 4096 = a.val / 64 := by omega
  have e1 : (64 * a.val + s.val) % 4096 = 64 * (a.val % 64) + s.val := by omega
  unfold answer
  rw [sheets_apply]
  show rowOut m c ⟨(64 * a.val + s.val) / 4096, _⟩ (ix2 ⟨(64 * a.val + s.val) % 4096, _⟩ j) = rowOut m c ⟨a.val / 64, _⟩ (ix2 ⟨64 * (a.val % 64) + s.val, _⟩ j)
  simp only [e0, e1]

/-- The tile's row of a batch entry's token holds its features. -/
theorem tile_at (c : Dev nD) (a : Fin 4096) (s : Fin 64) (k : Fin 35) :
    iblk m c 0 (pointOf a) (ix2 (rowOf a s) k) = argX m c (ix3 a s k) := by
  have ha := a.isLt
  have hs := s.isLt
  have e0 : 64 * (a.val / 64) + (64 * (a.val % 64) + s.val) / 64 = a.val := by omega
  have e1 : (64 * (a.val % 64) + s.val) % 64 = s.val := by omega
  refine (blk0 m c (pointOf a) (rowOf a s) k (by show 64 * (a.val / 64) + (64 * (a.val % 64) + s.val) / 64 < 4096; omega)).trans ?_
  show m ((c : Thread nD τ).loc main_arg0) (ix3 ⟨64 * (a.val / 64) + (64 * (a.val % 64) + s.val) / 64, _⟩ ⟨(64 * (a.val % 64) + s.val) % 64, _⟩ k) = _
  simp only [e0, e1]

/-- A token is its row's remainder by the number of tokens. -/
theorem token_eq (a : Fin 4096) (s : Fin 64) (h : (rowOf a s).val % 64 < 64) : (⟨(rowOf a s).val % 64, h⟩ : Fin 64) = s :=
  Fin.ext (by show (64 * (a.val % 64) + s.val) % 64 = s.val; omega)

/-- The result in its first 768 columns: the features' product with the weights, the position and the bias. -/
theorem answer_left (c : Dev nD) (a : Fin 4096) (s : Fin 64) (j : Fin 1152) (hj : j.val < 768) :
    answer m c (ix3 a s j)
      = (∑ k : Fin 32, argX m c (ix3 a s ⟨k.val, by omega⟩) * argW m c (ix2 k ⟨j.val, hj⟩))
        + (argE m c (ix2 s j) + argB m c (ix2 0 ⟨j.val, hj⟩)) := by
  rw [answer_at]
  refine (block_left _ _ _ _ _ _ hj).trans ((left_closed _ _ _ _ _ _).trans ?_)
  refine congrArg₂ (· + ·) (Finset.sum_congr rfl fun k _ => ?_) ?_
  · exact congrArg (· * argW m c (ix2 k ⟨j.val, hj⟩)) (tile_at m c a s ⟨k.val, by omega⟩)
  · rw [token_eq]

/-- The result in its last 384 columns, for indices inside their tables: one table's row and the position. -/
theorem answer_right (c : Dev nD) (a : Fin 4096) (s : Fin 64) (j : Fin 1152) (hj : ¬j.val < 768) (D : Fin 15) (P : Fin 64) (G : Fin 20)
    (hD : word (argX m c (ix3 a s 33)) = BitVec.ofNat 32 D.val)
    (hP : word (argX m c (ix3 a s 32)) = BitVec.ofNat 32 P.val)
    (hG : word (argX m c (ix3 a s 34)) = BitVec.ofNat 32 G.val) :
    answer m c (ix3 a s j) = looked (argD m c) (argP m c) (argG m c) D P G ⟨j.val - 768, by omega⟩ + argE m c (ix2 s j) := by
  have hj' := j.isLt
  rw [answer_at]
  refine (block_right _ _ _ _ _ _ hj).trans ((right_closed _ _ _ _ _ _ D P G ?_ ?_ ?_ _).trans ?_)
  · exact (congrArg word (tile_at m c a s 33)).trans hD
  · exact (congrArg word (tile_at m c a s 32)).trans hP
  · exact (congrArg word (tile_at m c a s 34)).trans hG
  · have e : (⟨768 + (j.val - 768), by omega⟩ : Fin 1152) = j := Fin.ext (by show 768 + (j.val - 768) = j.val; omega)
    rw [token_eq, e]

end Cert.KernelIdeal.Fused

end
-- ==== Proof.Reference.Value.lean ====
/-
  The reference's result at an index: the row's product with the weights and the bias, or one table's row, and the row's
  position.
-/
module

public import proofs.«01_k».proof.Proof.Gen.ReferenceIdeal.Run
public import Idealize.ShloMosaic.Lib.Pointwise
public import Idealize.ShloMosaic.Lib.ValueIdx
public import Idealize.ShloMosaic.Lib.ReduceAll
public import Idealize.ShloMosaic.Lib.WordCmp
public import Idealize.ShloMosaic.Lib.Routing.Ops

@[expose] public section

set_option maxRecDepth 16384

noncomputable section

namespace Cert.ReferenceIdeal.Look

open Cert.ReferenceIdeal Cert.ReferenceIdeal.Gen Idealize.ShloMosaic Idealize.ShloMosaic.TcCoe Idealize.ShloMosaic.Tactic

/-! ## A table's rows at given places -/

section Rows

variable {α : Type}

/-- The dimension numbers of a look-up of whole rows of an `[N, C]` table at an `[A, B]` array of places. -/
abbrev rowDims (N C A B : ℕ) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

variable {N C A B : ℕ} (wf : GatherDims.WF ⟨2, ![N, C]⟩ ⟨3, ![A, B, 1]⟩ ⟨3, ![A, B, C]⟩ [2] [0] [] [0] [] 2 ![1, C])
  (w : IVec ⟨3, ![A, B, 1]⟩ 32) (a : Fin A) (s : Fin B) (j : Fin C)

/-- The slice an entry reads starts at the row its place names. -/
theorem start_row (n : Fin N) (hN : N < 2 ^ 31) (h : w (ix3 a s 0) = BitVec.ofNat 32 n.val) :
    (rowDims N C A B wf).start (ix3 a s j) w (0 : Fin 2) = n.val := by
  have hn := n.isLt
  have hmem : (0 : Fin 2) ∈ (rowDims N C A B wf).startIndexMap := List.mem_singleton.mpr rfl
  have hsi : (rowDims N C A B wf).siIdx (ix3 a s j) ⟨List.idxOf (0 : Fin 2) (rowDims N C A B wf).startIndexMap,
      List.idxOf_lt_length_iff.2 hmem⟩ = ix3 a s 0 := by
    funext c
    exact Fin.ext (match c with | ⟨0, _⟩ => rfl | ⟨1, _⟩ => rfl | ⟨2, _⟩ => rfl)
  unfold GatherDims.start
  rw [dif_pos hmem, hsi, h, WordCmp.toInt_ofNat_of_lt (show n.val < 2 ^ (32 - 1) by omega)]
  show min ((n.val : ℤ).toNat) (N - 1) = n.val
  omega

/-- It starts at column zero. -/
theorem start_col : (rowDims N C A B wf).start (ix3 a s j) w (1 : Fin 2) = 0 := by
  unfold GatherDims.start
  exact dif_neg (fun h => by simp at h)

/-- An entry's column inside its slice is its own. -/
theorem off_col : (rowDims N C A B wf).offCoord (ix3 a s j) (1 : Fin 2) = j.val := by
  unfold GatherDims.offCoord
  rw [dif_pos (by rw [GatherDims.mem_sKept]; exact ⟨fun h => by simp at h, List.not_mem_nil⟩)]
  rfl

/-- Where the place of `(a, s)` is row `n` of the table, entry `(a, s, j)` of the look-up is the table's entry `(n, j)`. -/
theorem rows_at (x : (⟨2, ![N, C]⟩ : Shape).Idx → α) (n : Fin N) (hN : N < 2 ^ 31) (h : w (ix3 a s 0) = BitVec.ofNat 32 n.val) :
    Host.gather (rowDims N C A B wf) x w (ix3 a s j) = x (ix2 n j) := by
  refine congrArg x (funext fun b => Fin.ext ?_)
  show (rowDims N C A B wf).start (ix3 a s j) w b + (rowDims N C A B wf).batchCoord (ix3 a s j) b + (rowDims N C A B wf).offCoord (ix3 a s j) b = _
  rw [GatherDims.batchCoord_eq_zero _ _ _ List.not_mem_nil]
  match b with
  | ⟨0, _⟩ =>
    have e := start_row wf w a s j n hN h
    have e2 := (rowDims N C A B wf).offCoord_eq_zero (ix3 a s j) (0 : Fin 2)
      (fun h => ((GatherDims.mem_sKept _ _).mp h).1 (List.mem_singleton.mpr rfl))
    exact congrArg₂ (fun p q => p + 0 + q) e e2
  | ⟨1, _⟩ =>
    exact (congrArg₂ (fun p q => p + 0 + q) (start_col wf w a s j) (off_col wf a s j)).trans (Nat.zero_add _)

end Rows

/-! ## The reference's own terms -/

/-- The index a feature column holds, as a word. -/
def place (x : FVec Ideal S4096x64x35 .f32) (o : ℕ) (h : S4096x64x35.Slices ![0, 0, o] S4096x64x1) : IVec S4096x64 32 :=
  fptosi 32 (shapeCast S4096x64 (extractStridedSlice S4096x64x1 ![0, 0, o] x h) shapeCasts_S4096x64x1_S4096x64)

/-- An index counted from the table's end where it is negative. -/
def wrapped (N : BitVec 32) (I : IVec S4096x64 32) : IVec S4096x64x1 32 :=
  broadcastInDim S4096x64x1 ![0, 1] bcast_S4096x64_S4096x64x1_0_1
    (select (cmpi .slt I (broadcastInDim S4096x64 ![] bcast_S_S4096x64 (constantI S_ 32 0#32)))
      (addi I (broadcastInDim S4096x64 ![] bcast_S_S4096x64 (constantI S_ 32 N))) I)

/-- Whether a place lies between zero and the table's last row. -/
def bounds (top : BitVec 32) (W : IVec S4096x64x1 32) : IVec S4096x64x1 1 :=
  andi (cmpi .sge W (broadcastInDim S4096x64x1 ![] bcast_S_S4096x64x1 (constantI S_ 32 0#32)))
    (cmpi .sle W (broadcastInDim S4096x64x1 ![0, 1, 2] bcast_S1x1x1_S4096x64x1_0_1_2
      (broadcastInDim S1x1x1 ![2] bcast_S1_S1x1x1_2 (constantI S1 32 top))))

/-- A look-up: the row of the table at a place inside it, and no number elsewhere. -/
def look (N : ℕ) (wf : GatherDims.WF ⟨2, ![N, 128]⟩ S4096x64x1 S4096x64x128 [2] [0] [] [0] [] 2 ![1, 128]) (top : BitVec 32)
    (x : FVec Ideal ⟨2, ![N, 128]⟩ .f32) (I : IVec S4096x64 32) : FVec Ideal S4096x64x128 .f32 :=
  select (broadcastInDim S4096x64x128 ![0, 1] bcast_S4096x64_S4096x64x128_0_1
      (Host.reduce IntOp.andi (bounds top (wrapped (BitVec.ofNat 32 N) I)) (constantI S_ 1 1#1) reducesTo_S4096x64x1_S4096x64_d2 h_S_))
    (Host.gather (rowDims N 128 4096 64 wf) x (wrapped (BitVec.ofNat 32 N) I))
    (broadcastInDim S4096x64x128 ![] bcast_S_S4096x64x128 (constant S_ .f32 0x7FC00000#32))

/-- The tokens' positions. -/
def steps : IVec S64x1 32 :=
  broadcastInDim S64x1 ![0] bcast_S64_S64x1_0
    (select (cmpi .slt (iotaInDim S64 32 0) (broadcastInDim S64 ![] bcast_S_S64 (constantI S_ 32 0#32)))
      (addi (iotaInDim S64 32 0) (broadcastInDim S64 ![] bcast_S_S64 (constantI S_ 32 64#32))) (iotaInDim S64 32 0))

/-- Whether a token's position lies inside the table of positions. -/
def stepBounds : IVec S64x1 1 :=
  andi (cmpi .sge steps (broadcastInDim S64x1 ![] bcast_S_S64x1 (constantI S_ 32 0#32)))
    (cmpi .sle steps (broadcastInDim S64x1 ![0, 1] bcast_S1x1_S64x1_0_1 (broadcastInDim S1x1 ![1] bcast_S1_S1x1_1 (constantI S1 32 63#32))))

/-- The positions' rows, looked up. -/
def walk (x : FVec Ideal S64x1152 .f32) : FVec Ideal S64x1152 .f32 :=
  select (broadcastInDim S64x1152 ![0] bcast_S64_S64x1152_0
      (Host.reduce IntOp.andi stepBounds (constantI S_ 1 1#1) reducesTo_S64x1_S64_d1 h_S_))
    (Host.gather gather_S64x1152_S64x1_S64x1152_1_0_n_n_0_1_11152 x steps)
    (broadcastInDim S64x1152 ![] bcast_S_S64x1152 (constant S_ .f32 0x7FC00000#32))

/-- The features' product with the weights, and the bias. -/
def project (x : FVec Ideal S4096x64x35 .f32) (w : FVec Ideal S32x768 .f32) (b : FVec Ideal S768 .f32) : FVec Ideal S4096x64x768 .f32 :=
  addf (Host.dotGeneral dot_S4096x64x32_S32x768_S4096x64x768_2_0_01_1_n_n none
      (extractStridedSlice S4096x64x32 ![0, 0, 0] x slices_S4096x64x35_S4096x64x32_0_0_0) w)
    (broadcastInDim S4096x64x768 ![0, 1, 2] bcast_S1x1x768_S4096x64x768_0_1_2 (broadcastInDim S1x1x768 ![2] bcast_S768_S1x1x768_2 b))

/-- The four parts of a row side by side. -/
def side (u0 : FVec Ideal S4096x64x768 .f32) (u1 u2 u3 : FVec Ideal S4096x64x128 .f32) : FVec Ideal S4096x64x1152 .f32 :=
  concatenate S4096x64x1152 2 [⟨S4096x64x768, u0⟩, ⟨S4096x64x128, u1⟩, ⟨S4096x64x128, u2⟩, ⟨S4096x64x128, u3⟩]
    concatenates_S4096x64x768_S4096x64x128_S4096x64x128_S4096x64x128_S4096x64x1152_d2

/-- The same row of positions for every batch entry. -/
def spread (e : FVec Ideal S64x1152 .f32) : FVec Ideal S4096x64x1152 .f32 :=
  broadcastInDim S4096x64x1152 ![0, 1, 2] bcast_S1x64x1152_S4096x64x1152_0_1_2 (broadcastInDim S1x64x1152 ![1, 2] bcast_S64x1152_S1x64x1152_1_2 e)

/-- The reference's result, from its arguments. -/
def whole (x : FVec Ideal S4096x64x35 .f32) (w : FVec Ideal S32x768 .f32) (b : FVec Ideal S768 .f32) (d : FVec Ideal S15x128 .f32)
    (p : FVec Ideal S64x128 .f32) (g : FVec Ideal S20x128 .f32) (e : FVec Ideal S64x1152 .f32) : FVec Ideal S4096x64x1152 .f32 :=
  addf (side (project x w b)
      (look 15 gather_S15x128_S4096x64x1_S4096x64x128_2_0_n_n_0_2_1128_wf 14#32 d (place x 33 slices_S4096x64x35_S4096x64x1_0_0_33))
      (look 64 gather_S64x128_S4096x64x1_S4096x64x128_2_0_n_n_0_2_1128_wf 63#32 p (place x 32 slices_S4096x64x35_S4096x64x1_0_0_32))
      (look 20 gather_S20x128_S4096x64x1_S4096x64x128_2_0_n_n_0_2_1128_wf 19#32 g (place x 34 slices_S4096x64x35_S4096x64x1_0_0_34)))
    (spread (walk e))

set_option maxHeartbeats 1000000 in
/-- What the reference's run leaves is that result. -/
theorem res_whole (m : (ℓ : Loc nD τ sig) → Buf (Elt Ideal) ℓ) (c : Dev nD) :
    Value.res_main_v22 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold Value.res_main_v22
  rfl

/-! ## Their values -/

/-- The index of a row's column. -/
theorem place_at (x : FVec Ideal S4096x64x35 .f32) (o : ℕ) (h : S4096x64x35.Slices ![0, 0, o] S4096x64x1) (ho : o < 35) (a : Fin 4096) (s : Fin 64) :
    place x o h (ix2 a s) = FloatOps.fptosi (F := Ideal) (φ := .f32) 32 (x (ix3 a s ⟨o, ho⟩)) := by
  refine congrArg (FloatOps.fptosi (F := Ideal) (φ := .f32) 32) ?_
  refine (shapeCast_apply _ _ (ix2 a s) (ix3 a s (0 : Fin 1)) ?_).trans ?_
  · rw [Shape.rowMajor_val_three, Shape.rowMajor_val_two]
    show _ + 0 = _
    simp
  · pointwise

/-- An index inside the table is left as it is. -/
theorem wrapped_at (N : BitVec 32) (I : IVec S4096x64 32) (a : Fin 4096) (s : Fin 64) (k : Fin 1) (n : ℕ) (hn : n < 2 ^ 31)
    (h : I (ix2 a s) = BitVec.ofNat 32 n) : wrapped N I (ix3 a s k) = BitVec.ofNat 32 n := by
  have e : wrapped N I (ix3 a s k) = Scalar.select (IntOp.cmpi .slt (I (ix2 a s)) 0#32) (IntOp.addi (I (ix2 a s)) N) (I (ix2 a s)) := by
    unfold wrapped; pointwise
  rw [e, h, WordCmp.cmpi_slt_ofNat (w := 32) hn (by decide)]
  rfl

/-- The bit that a small number lies between zero and a bound. -/
theorem between (n top : ℕ) (hn : n ≤ top) (ht : top < 2 ^ 31) :
    IntOp.andi (IntOp.cmpi .sge (BitVec.ofNat 32 n) 0#32) (IntOp.cmpi .sle (BitVec.ofNat 32 n) (BitVec.ofNat 32 top)) = 1#1 := by
  rw [WordCmp.cmpi_sge_ofNat (w := 32) (by omega) (by decide), WordCmp.cmpi_sle_ofNat (w := 32) (by omega) ht, WordCmp.andi_ofBool,
    WordCmp.ofBool_eq_one_iff]
  simp [hn]

/-- Indices inside the table pass the look-up's test. -/
theorem bounds_one (N top : ℕ) (hN : N = top + 1) (ht : top < 2 ^ 30) (I : IVec S4096x64 32)
    (h : ∀ a s, ∃ n : Fin N, I (ix2 a s) = BitVec.ofNat 32 n.val) (i : S4096x64x1.Idx) :
    bounds (BitVec.ofNat 32 top) (wrapped (BitVec.ofNat 32 N) I) i = 1#1 := by
  obtain ⟨a, s, k, rfl⟩ : ∃ (a : Fin 4096) (s : Fin 64) (k : Fin 1), i = ix3 a s k := ⟨i 0, i 1, i 2, eq_ix3 i⟩
  obtain ⟨n, hn⟩ := h a s
  have hlt := n.isLt
  have e : ∀ W : IVec S4096x64x1 32, bounds (BitVec.ofNat 32 top) W (ix3 a s k)
      = IntOp.andi (IntOp.cmpi .sge (W (ix3 a s k)) 0#32) (IntOp.cmpi .sle (W (ix3 a s k)) (BitVec.ofNat 32 top)) := by
    intro W; unfold bounds; pointwise
  rw [e, wrapped_at _ I a s k n.val (by omega) hn]
  exact between _ _ (by omega) (by omega)

/-- With every index inside the table, the look-up is the table's row. -/
theorem look_at (N top : ℕ) (hN : N = top + 1) (ht : top < 2 ^ 30)
    (wf : GatherDims.WF ⟨2, ![N, 128]⟩ S4096x64x1 S4096x64x128 [2] [0] [] [0] [] 2 ![1, 128])
    (x : FVec Ideal ⟨2, ![N, 128]⟩ .f32) (I : IVec S4096x64 32)
    (h : ∀ a s, ∃ n : Fin N, I (ix2 a s) = BitVec.ofNat 32 n.val) (a : Fin 4096) (s : Fin 64) (j : Fin 128) (n : Fin N)
    (hn : I (ix2 a s) = BitVec.ofNat 32 n.val) : look N wf (BitVec.ofNat 32 top) x I (ix3 a s j) = x (ix2 n j) := by
  have hlt := n.isLt
  have e : ∀ (b : IVec S4096x64 1) (u v : FVec Ideal S4096x64x128 .f32),
      select (broadcastInDim S4096x64x128 ![0, 1] bcast_S4096x64_S4096x64x128_0_1 b) u v (ix3 a s j)
        = Scalar.select (b (ix2 a s)) (u (ix3 a s j)) (v (ix3 a s j)) := by
    intro b u v; pointwise
  unfold look
  rw [e, Host.reduce_andi_one _ _ _ _ _ rfl (bounds_one N top hN ht I h),
    rows_at wf _ a s j x n (by omega) (wrapped_at _ I a s 0 n.val (by omega) hn)]
  rfl

/-- A token's position. -/
theorem steps_at (s : Fin 64) (k : Fin 1) : steps (ix2 s k) = BitVec.ofNat 32 s.val := by
  have hs := s.isLt
  have e : steps (ix2 s k) = Scalar.select (IntOp.cmpi .slt (BitVec.ofNat 32 s.val) 0#32) (IntOp.addi (BitVec.ofNat 32 s.val) 64#32) (BitVec.ofNat 32 s.val) := by
    unfold steps; pointwise
  rw [e, WordCmp.cmpi_slt_ofNat (w := 32) (by omega) (by decide)]
  rfl

/-- Every token's position lies inside the table of positions. -/
theorem stepBounds_one (i : S64x1.Idx) : stepBounds i = 1#1 := by
  obtain ⟨s, k, rfl⟩ : ∃ (s : Fin 64) (k : Fin 1), i = ix2 s k := ⟨i 0, i 1, eq_ix2 i⟩
  have hs := s.isLt
  have e : stepBounds (ix2 s k) = IntOp.andi (IntOp.cmpi .sge (steps (ix2 s k)) 0#32) (IntOp.cmpi .sle (steps (ix2 s k)) 63#32) := by
    unfold stepBounds; pointwise
  rw [e, steps_at]
  exact between s.val 63 (by omega) (by decide)

/-- The positions' rows, looked up in order, are the table. -/
theorem walk_at (x : FVec Ideal S64x1152 .f32) (s : Fin 64) (j : Fin 1152) : walk x (ix2 s j) = x (ix2 s j) := by
  have e : ∀ (b : IVec S64 1) (u v : FVec Ideal S64x1152 .f32),
      select (broadcastInDim S64x1152 ![0] bcast_S64_S64x1152_0 b) u v (ix2 s j) = Scalar.select (b (ix1 s)) (u (ix2 s j)) (v (ix2 s j)) := by
    intro b u v; pointwise
  unfold walk
  rw [e, Host.reduce_andi_one _ _ _ _ _ rfl stepBounds_one]
  exact Routing.gather_row gather_S64x1152_S64x1_S64x1152_1_0_n_n_0_1_11152 rfl rfl rfl rfl rfl x steps s j s (steps_at s 0) (by decide)

/-- An entry of the product, and its bias. -/
theorem project_at (x : FVec Ideal S4096x64x35 .f32) (w : FVec Ideal S32x768 .f32) (b : FVec Ideal S768 .f32) (a : Fin 4096) (s : Fin 64) (j : Fin 768) :
    project x w b (ix3 a s j) = (∑ k : Fin 32, x (ix3 a s ⟨k.val, by omega⟩) * w (ix2 k j)) + b (ix1 j) := by
  unfold project; pointwise

/-- A position's row, spread. -/
theorem spread_at (e : FVec Ideal S64x1152 .f32) (a : Fin 4096) (s : Fin 64) (j : Fin 1152) : spread e (ix3 a s j) = e (ix2 s j) := by
  unfold spread; pointwise

/-- The four parts side by side, entry by entry. -/
theorem side_at (u0 : FVec Ideal S4096x64x768 .f32) (u1 u2 u3 : FVec Ideal S4096x64x128 .f32) (a : Fin 4096) (s : Fin 64) (j : Fin 1152) :
    side u0 u1 u2 u3 (ix3 a s j)
      = if h0 : j.val < 768 then u0 (ix3 a s ⟨j.val, h0⟩)
        else if h1 : j.val - 768 < 128 then u1 (ix3 a s ⟨j.val - 768, h1⟩)
        else if h2 : j.val - 768 - 128 < 128 then u2 (ix3 a s ⟨j.val - 768 - 128, h2⟩)
        else u3 (ix3 a s ⟨j.val - 768 - 128 - 128, by omega⟩) := by
  unfold side; pointwise

/-! ## The result -/

section Entry

variable (x : FVec Ideal S4096x64x35 .f32) (w : FVec Ideal S32x768 .f32) (b : FVec Ideal S768 .f32) (d : FVec Ideal S15x128 .f32)
  (p : FVec Ideal S64x128 .f32) (g : FVec Ideal S20x128 .f32) (e : FVec Ideal S64x1152 .f32)

/-- Every row's index in column `o` is a row of a table of `N` rows. -/
def Inside (o : Fin 35) (N : ℕ) : Prop :=
  ∀ (a : Fin 4096) (s : Fin 64), ∃ n : Fin N, FloatOps.fptosi (F := Ideal) (φ := .f32) 32 (x (ix3 a s o)) = BitVec.ofNat 32 n.val

/-- A table's look-up in a feature column whose indices lie inside the table. -/
theorem look_place (N top o : ℕ) (hN : N = top + 1) (ht : top < 2 ^ 30) (ho : o < 35)
    (wf : GatherDims.WF ⟨2, ![N, 128]⟩ S4096x64x1 S4096x64x128 [2] [0] [] [0] [] 2 ![1, 128]) (h : S4096x64x35.Slices ![0, 0, o] S4096x64x1)
    (y : FVec Ideal ⟨2, ![N, 128]⟩ .f32) (hin : Inside x ⟨o, ho⟩ N) (a : Fin 4096) (s : Fin 64) (j : Fin 128) (n : Fin N)
    (hn : FloatOps.fptosi (F := Ideal) (φ := .f32) 32 (x (ix3 a s ⟨o, ho⟩)) = BitVec.ofNat 32 n.val) :
    look N wf (BitVec.ofNat 32 top) y (place x o h) (ix3 a s j) = y (ix2 n j) :=
  look_at N top hN ht wf y _ (fun a s => (hin a s).imp fun _ hk => (place_at x o h ho a s).trans hk) a s j n
    ((place_at x o h ho a s).trans hn)

/-- The result in its first 768 columns. -/
theorem whole_left (a : Fin 4096) (s : Fin 64) (j : Fin 1152) (hj : j.val < 768) :
    whole x w b d p g e (ix3 a s j)
      = ((∑ k : Fin 32, x (ix3 a s ⟨k.val, by omega⟩) * w (ix2 k ⟨j.val, hj⟩)) + b (ix1 ⟨j.val, hj⟩)) + e (ix2 s j) := by
  refine congrArg₂ (fun u v : EReal => u + v) ?_ ((spread_at _ a s j).trans (walk_at e s j))
  rw [side_at, dif_pos hj]
  exact project_at x w b a s _

/-- The result in its last 384 columns: one table's row, and the position. -/
theorem whole_right (hD : Inside x 33 15) (hP : Inside x 32 64) (hG : Inside x 34 20) (a : Fin 4096) (s : Fin 64) (j : Fin 1152) (hj : ¬j.val < 768)
    (D : Fin 15) (P : Fin 64) (G : Fin 20) (eD : FloatOps.fptosi (F := Ideal) (φ := .f32) 32 (x (ix3 a s 33)) = BitVec.ofNat 32 D.val)
    (eP : FloatOps.fptosi (F := Ideal) (φ := .f32) 32 (x (ix3 a s 32)) = BitVec.ofNat 32 P.val)
    (eG : FloatOps.fptosi (F := Ideal) (φ := .f32) 32 (x (ix3 a s 34)) = BitVec.ofNat 32 G.val) :
    whole x w b d p g e (ix3 a s j)
      = (if h1 : j.val - 768 < 128 then d (ix2 D ⟨j.val - 768, h1⟩)
          else if h2 : j.val - 768 - 128 < 128 then p (ix2 P ⟨j.val - 768 - 128, h2⟩)
          else g (ix2 G ⟨j.val - 768 - 128 - 128, by omega⟩)) + e (ix2 s j) := by
  refine congrArg₂ (fun u v : EReal => u + v) ?_ ((spread_at _ a s j).trans (walk_at e s j))
  rw [side_at, dif_neg hj]
  by_cases h1 : j.val - 768 < 128
  · rw [dif_pos h1, dif_pos h1]
    exact look_place x 15 14 33 rfl (by decide) (by decide) _ _ d hD a s _ D eD
  · rw [dif_neg h1, dif_neg h1]
    by_cases h2 : j.val - 768 - 128 < 128
    · rw [dif_pos h2, dif_pos h2]
      exact look_place x 64 63 32 rfl (by decide) (by decide) _ _ p hP a s _ P eP
    · rw [dif_neg h2, dif_neg h2]
      exact look_place x 20 19 34 rfl (by decide) (by decide) _ _ g hG a s _ G eG

end Entry

end Cert.ReferenceIdeal.Look

end
-- ==== Proof.Result.lean ====
/-
  The kernel's result is the reference's: the precondition's indices lie inside their tables, and there both results are the
  same sums.
-/
module

public import proofs.«01_k».proof.Defs
public import proofs.«01_k».proof.Proof.Ideal.Final
public import proofs.«01_k».proof.Proof.Reference.Value

@[expose] public section

set_option maxRecDepth 16384

noncomputable section

namespace Cert.Equal

open Idealize.ShloMosaic Idealize.ShloMosaic.TcCoe Idealize.ShloMosaic.Tactic Idealize.SL.Sem
open Cert.KernelIdeal.Fused (argX argW argB argD argP argG argE answer word looked)
open Cert.ReferenceIdeal.Look (whole Inside)

/-! ## The precondition -/

/-- The shapes the precondition's operations name fit. -/
theorem preFacts : Cert.Pre_indices_in_range.Facts where
  slices_S4096x64x35_S4096x64x1_0_0_32 := by decide
  slices_S4096x64x35_S4096x64x1_0_0_33 := by decide
  slices_S4096x64x35_S4096x64x1_0_0_34 := by decide
  shapeCasts_S4096x64x1_S4096x64 := by decide
  bcast_S_S4096x64 := by decide

/-- A conjunction of two bits is one exactly when both are. -/
theorem and_one (a b : BitVec 1) : IntOp.andi a b = 1#1 ↔ a = 1#1 ∧ b = 1#1 := by
  revert a b; decide

/-- A word between zero and a bound is a number below the bound. -/
theorem number (w : BitVec 32) (N : ℕ) (hN : N < 2 ^ 31) (h0 : IntOp.cmpi .sge w 0#32 = 1#1) (h1 : IntOp.cmpi .slt w (BitVec.ofNat 32 N) = 1#1) :
    ∃ n : Fin N, w = BitVec.ofNat 32 n.val := by
  rw [WordCmp.cmpi_sge_eq, WordCmp.ofBool_decide_eq_one_iff] at h0
  rw [WordCmp.cmpi_slt_eq, WordCmp.ofBool_decide_eq_one_iff, WordCmp.toInt_ofNat_of_lt (by omega)] at h1
  have hz : (0#32 : BitVec 32).toInt = 0 := by decide
  rw [hz] at h0
  have e := BitVec.toInt_eq_toNat_cond w
  have hw := w.isLt
  refine ⟨⟨w.toNat, ?_⟩, BitVec.eq_of_toNat_eq (by rw [BitVec.toNat_ofNat]; exact (Nat.mod_eq_of_lt hw).symm)⟩
  split at e <;> omega

section Pre

attribute [local instance] preFacts

/-- The precondition at a batch entry's token: six comparisons of the three indices. -/
theorem pre_at (x0 : FVec Ideal Cert.Pre_indices_in_range.S4096x64x35 .f32) (x1 : FVec Ideal Cert.Pre_indices_in_range.S32x768 .f32)
    (x2 : FVec Ideal Cert.Pre_indices_in_range.S768 .f32) (x3 : FVec Ideal Cert.Pre_indices_in_range.S15x128 .f32)
    (x4 : FVec Ideal Cert.Pre_indices_in_range.S64x128 .f32) (x5 : FVec Ideal Cert.Pre_indices_in_range.S20x128 .f32)
    (x6 : FVec Ideal Cert.Pre_indices_in_range.S64x1152 .f32) (h : Cert.Pre_indices_in_range.fn (F := Ideal) x0 x1 x2 x3 x4 x5 x6 = fun _ => 1#1) :
    Inside x0 33 15 ∧ Inside x0 32 64 ∧ Inside x0 34 20 := by
  have key : ∀ (a : Fin 4096) (s : Fin 64),
      (((((IntOp.cmpi .sge (word (x0 (ix3 a s 32))) 0#32 = 1#1 ∧ IntOp.cmpi .slt (word (x0 (ix3 a s 32))) 64#32 = 1#1)
        ∧ IntOp.cmpi .sge (word (x0 (ix3 a s 33))) 0#32 = 1#1) ∧ IntOp.cmpi .slt (word (x0 (ix3 a s 33))) 15#32 = 1#1)
        ∧ IntOp.cmpi .sge (word (x0 (ix3 a s 34))) 0#32 = 1#1) ∧ IntOp.cmpi .slt (word (x0 (ix3 a s 34))) 20#32 = 1#1) := by
    intro a s
    rw [← and_one, ← and_one, ← and_one, ← and_one, ← and_one]
    have e := congrFun h (ix2 a s)
    have e32 := Cert.ReferenceIdeal.Look.place_at x0 32 Cert.Pre_indices_in_range.Facts.slices_S4096x64x35_S4096x64x1_0_0_32 (by decide) a s
    have e33 := Cert.ReferenceIdeal.Look.place_at x0 33 Cert.Pre_indices_in_range.Facts.slices_S4096x64x35_S4096x64x1_0_0_33 (by decide) a s
    have e34 := Cert.ReferenceIdeal.Look.place_at x0 34 Cert.Pre_indices_in_range.Facts.slices_S4096x64x35_S4096x64x1_0_0_34 (by decide) a s
    refine Eq.trans ?_ e
    show IntOp.andi (IntOp.andi (IntOp.andi (IntOp.andi (IntOp.andi (IntOp.cmpi .sge _ 0#32) (IntOp.cmpi .slt _ 64#32)) (IntOp.cmpi .sge _ 0#32))
      (IntOp.cmpi .slt _ 15#32)) (IntOp.cmpi .sge _ 0#32)) (IntOp.cmpi .slt _ 20#32)
      = IntOp.andi (IntOp.andi (IntOp.andi (IntOp.andi (IntOp.andi
        (IntOp.cmpi .sge (Cert.ReferenceIdeal.Look.place x0 32 Cert.Pre_indices_in_range.Facts.slices_S4096x64x35_S4096x64x1_0_0_32 (ix2 a s)) 0#32)
        (IntOp.cmpi .slt (Cert.ReferenceIdeal.Look.place x0 32 Cert.Pre_indices_in_range.Facts.slices_S4096x64x35_S4096x64x1_0_0_32 (ix2 a s)) 64#32))
        (IntOp.cmpi .sge (Cert.ReferenceIdeal.Look.place x0 33 Cert.Pre_indices_in_range.Facts.slices_S4096x64x35_S4096x64x1_0_0_33 (ix2 a s)) 0#32))
        (IntOp.cmpi .slt (Cert.ReferenceIdeal.Look.place x0 33 Cert.Pre_indices_in_range.Facts.slices_S4096x64x35_S4096x64x1_0_0_33 (ix2 a s)) 15#32))
        (IntOp.cmpi .sge (Cert.ReferenceIdeal.Look.place x0 34 Cert.Pre_indices_in_range.Facts.slices_S4096x64x35_S4096x64x1_0_0_34 (ix2 a s)) 0#32))
        (IntOp.cmpi .slt (Cert.ReferenceIdeal.Look.place x0 34 Cert.Pre_indices_in_range.Facts.slices_S4096x64x35_S4096x64x1_0_0_34 (ix2 a s)) 20#32)
    rw [e32, e33, e34]
    rfl
  exact ⟨fun a s => number _ 15 (by decide) (key a s).1.1.1.2 (key a s).1.1.2,
    fun a s => number _ 64 (by decide) (key a s).1.1.1.1.1 (key a s).1.1.1.1.2,
    fun a s => number _ 20 (by decide) (key a s).1.2 (key a s).2⟩

end Pre

/-! ## The results -/

/-- The kernel's result is the reference's, of the same arguments, where every index lies inside its table. -/
theorem same (m : (ℓ : Loc Cert.KernelIdeal.nD Cert.KernelIdeal.τ Cert.KernelIdeal.sig) → Buf (Elt Ideal) ℓ) (c : Dev Cert.KernelIdeal.nD)
    (b : FVec Ideal Cert.ReferenceIdeal.S768 .f32) (hb : ∀ j : Fin 768, b (ix1 j) = argB m c (ix2 0 j))
    (hD : Inside (argX m c) 33 15) (hP : Inside (argX m c) 32 64) (hG : Inside (argX m c) 34 20) :
    whole (argX m c) (argW m c) b (argD m c) (argP m c) (argG m c) (argE m c) = answer m c := by
  funext i
  obtain ⟨a, s, j, rfl⟩ : ∃ (a : Fin 4096) (s : Fin 64) (j : Fin 1152), i = ix3 a s j := ⟨i 0, i 1, i 2, eq_ix3 i⟩
  by_cases hj : j.val < 768
  · rw [Cert.ReferenceIdeal.Look.whole_left _ _ _ _ _ _ _ a s j hj, hb]
    refine Eq.trans ?_ (Cert.KernelIdeal.Fused.answer_left m c a s j hj).symm
    rw [add_assoc]
    exact congrArg₂ (fun u v : EReal => u + v) rfl (add_comm _ _)
  · obtain ⟨D, eD⟩ := hD a s
    obtain ⟨P, eP⟩ := hP a s
    obtain ⟨G, eG⟩ := hG a s
    rw [Cert.ReferenceIdeal.Look.whole_right _ _ _ _ _ _ _ hD hP hG a s j hj D P G eD eP eG]
    refine Eq.trans ?_ (Cert.KernelIdeal.Fused.answer_right m c a s j hj D P G eD eP eG).symm
    refine congrArg₂ (fun u v : EReal => u + v) ?_ rfl
    have hj' := j.isLt
    unfold looked
    by_cases h1 : j.val - 768 < 128
    · rw [dif_pos h1, dif_pos h1]
    · rw [dif_neg h1, dif_neg h1]
      by_cases h2 : j.val - 768 - 128 < 128
      · rw [dif_pos h2, dif_pos (show j.val - 768 < 256 by omega)]
      · rw [dif_neg h2, dif_neg (show ¬j.val - 768 < 256 by omega)]
        exact congrArg (argG m c) (congrArg (ix2 G) (Fin.ext (by show j.val - 768 - 128 - 128 = j.val - 768 - 256; omega)))

end Cert.Equal

end
-- ==== Proof.lean ====
/-
  The certificate: both kernels' frames, the reference's frame, that idealizing keeps the kernel, and that over the reals the
  idealized kernel's result is the reference's where every index lies inside its table.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Orig.Launch
public import proofs.«01_k».proof.Proof.Ideal.Launch
public import proofs.«01_k».proof.Proof.Result
public import Idealize.ShloMosaic.Adequacy
public import Idealize.ShloMosaic.Init

@[expose] public section

set_option maxRecDepth 16384

noncomputable section

namespace Cert.Proof

open Idealize.ShloMosaic Idealize.ShloMosaic.TcCoe Idealize.SL.Sem

attribute [local instance] Cert.Equal.preFacts

/-- The kernel's frame. -/
theorem frame_kernel : Cert.quiescent_Kernel := fun m g _ => Cert.Kernel.Fused.frame m g

/-- The idealized kernel's frame. -/
theorem frame_ideal : Cert.quiescent_KernelIdeal := fun m g _ => Cert.KernelIdeal.Fused.frame m g

/-- The idealized kernel's frame, under the precondition. -/
theorem frame_ideal_pre : Cert.quiescent_KernelIdeal_pre_indices_in_range := fun m g _ => Cert.KernelIdeal.Fused.frame m g

/-- The reference's frame: its run leaves its arguments, and it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The reference's frame, under the precondition. -/
theorem frame_reference_pre : Cert.quiescent_ReferenceIdeal_pre_indices_in_range := fun m g _ => frame_reference m g trivial

/-- The idealized kernel's run leaves `answer` in its result and its arguments as they were. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v3) = Cert.KernelIdeal.Fused.answer m c) :=
  (θ_run Cert.KernelIdeal.defs _ _).mono (fun r h c =>
      ((h c).2 Cert.KernelIdeal.main_v3 (Pipeline.mem_restRefs_of Cert.KernelIdeal.main_v3 (by decide) (by decide))).trans
        (Cert.KernelIdeal.Fused.tail_eq m c))
    (Cert.KernelIdeal.Fused.run_main m g)

/-- Over the reals the idealized kernel and the reference leave the same result, where every index lies inside its table. -/
theorem value : Cert.algebraic_KernelIdeal_ReferenceIdeal_pre_indices_in_range := by
  intro m g m' g' hpre hargs
  refine ⟨fun c => Cert.KernelIdeal.Fused.answer m c, ?_, ?_⟩
  · exact (θ_run Cert.KernelIdeal.defs _ _).mono (fun r h c => ⟨h.1 c, h.2.1 c⟩)
      (θ_run_and (kernel_run m g) (Cert.KernelIdeal.Fused.frame m g))
  · refine (θ_run Cert.ReferenceIdeal.defs _ _).mono (fun r h c => ⟨(h c).1.trans ?_, (h c).2⟩) (Cert.ReferenceIdeal.Value.run m' g')
    obtain ⟨h0, h1, h2, h3, h4, h5, h6⟩ := hargs c
    obtain ⟨hD, hP, hG⟩ := Cert.Equal.pre_at _ _ _ _ _ _ _ (hpre c)
    rw [Cert.ReferenceIdeal.Look.res_whole, h0, h1, h2, h3, h4, h5, h6]
    exact Cert.Equal.same m c _ (fun j => rfl) hD hP hG

/-- Everything this certificate claims. -/
theorem claim : Cert.Claim :=
  ⟨Cert.Kernel.Gen.facts, Cert.KernelIdeal.Gen.facts, Cert.ReferenceIdeal.Gen.facts, Cert.Equal.preFacts,
    frame_kernel, frame_ideal, frame_ideal_pre, frame_reference, frame_reference_pre, trivial, value⟩

end Cert.Proof

end
